-- ==== Defs.lean ====
def Pre_Kernel [hPre_token_in_range : Cert.Pre_token_in_range.Facts] (m : (ℓ : Loc Cert.Kernel.nD Cert.Kernel.τ Cert.Kernel.sig) → Buf (Elt Bits) ℓ) : Prop :=
  ∀ c : Dev Cert.Kernel.nD,
    (Cert.Pre_token_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_token_in_range : Cert.Pre_token_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_token_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_token_in_range [hPre_token_in_range : Cert.Pre_token_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_token_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_token_in_range : Cert.Pre_token_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_token_in_range : Cert.Pre_token_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_token_in_range [hReferenceIdeal : Cert.ReferenceIdeal.Facts] [hPre_token_in_range : Cert.Pre_token_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_token_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_token_in_range : Cert.Pre_token_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_v261) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_token_in_range : Cert.Pre_token_in_range.Facts),
    quiescent_Kernel (hKernel := hKernel) (hPre_token_in_range := hPre_token_in_range)
    ∧ quiescent_KernelIdeal (hKernelIdeal := hKernelIdeal) (hPre_token_in_range := hPre_token_in_range)
    ∧ quiescent_ReferenceIdeal (hReferenceIdeal := hReferenceIdeal)
    ∧ quiescent_ReferenceIdeal_pre_token_in_range (hReferenceIdeal := hReferenceIdeal) (hPre_token_in_range := hPre_token_in_range)
    ∧ preserves_Kernel_KernelIdeal
    ∧ algebraic_KernelIdeal_ReferenceIdeal (hKernelIdeal := hKernelIdeal) (hReferenceIdeal := hReferenceIdeal) (hPre_token_in_range := hPre_token_in_range)
-- ==== Pre_token_in_range.lean ====
abbrev S1 : Shape := ⟨1, ![1]⟩
abbrev S6x1x139 : Shape := ⟨3, ![6, 1, 139]⟩
abbrev S53x139 : Shape := ⟨2, ![53, 139]⟩
abbrev S6x417x139 : Shape := ⟨3, ![6, 417, 139]⟩
abbrev S6x417 : Shape := ⟨2, ![6, 417]⟩
abbrev S53 : Shape := ⟨1, ![53]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S6x1x139 .f32) (main_arg2 : FVec F S53x139 .f32) (main_arg3 : FVec F S6x417x139 .f32) (main_arg4 : FVec F S6x417x139 .f32) (main_arg5 : FVec F S6x417 .f32) (main_arg6 : FVec F S6x417 .f32) (main_arg7 : FVec F S53x139 .f32) (main_arg8 : FVec F S53 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 53#32
  let main_v2 : IVec S1 32 := broadcastInDim S1 ![] bcast_S_S1 main_c_0
  let main_v3 : IVec S1 1 := cmpi .slt main_arg0 main_v2
  let main_v4 : IVec S1 1 := andi main_v1 main_v3
  main_v4
-- ==== Kernel.lean ====
abbrev S1 : Shape := ⟨1, ![1]⟩
abbrev S6x1x139 : Shape := ⟨3, ![6, 1, 139]⟩
abbrev S53x139 : Shape := ⟨2, ![53, 139]⟩
abbrev S6x417x139 : Shape := ⟨3, ![6, 417, 139]⟩
abbrev S6x417 : Shape := ⟨2, ![6, 417]⟩
abbrev S53 : Shape := ⟨1, ![53]⟩
abbrev S6x139x417 : Shape := ⟨3, ![6, 139, 417]⟩
abbrev S6x1x417 : Shape := ⟨3, ![6, 1, 417]⟩
abbrev S139x53 : Shape := ⟨2, ![139, 53]⟩
abbrev S1x53 : Shape := ⟨2, ![1, 53]⟩
abbrev S1x139 : Shape := ⟨2, ![1, 139]⟩
abbrev S1x139x417 : Shape := ⟨3, ![1, 139, 417]⟩
abbrev S139x417 : Shape := ⟨2, ![139, 417]⟩
abbrev S1x1x139 : Shape := ⟨3, ![1, 1, 139]⟩
abbrev S1x417 : Shape := ⟨2, ![1, 417]⟩
abbrev S1x1x417 : Shape := ⟨3, ![1, 1, 417]⟩

abbrev nBuf : Space → Nat
  | .hbm => 17
  | .vmem => 10
  | .smem => 1
  | _ => 0

abbrev bufTy : (tb : Table) → Fin (tcTables nBuf tb) → BufTy
  | .hbm, ⟨0, _⟩ => ⟨S1, .i32⟩
  | .hbm, ⟨1, _⟩ => ⟨S6x1x139, .f32⟩
  | .hbm, ⟨2, _⟩ => ⟨S53x139, .f32⟩
  | .hbm, ⟨3, _⟩ => ⟨S6x417x139, .f32⟩
  | .hbm, ⟨4, _⟩ => ⟨S6x417x139, .f32⟩
  | .hbm, ⟨5, _⟩ => ⟨S6x417, .f32⟩
  | .hbm, ⟨6, _⟩ => ⟨S6x417, .f32⟩
  | .hbm, ⟨7, _⟩ => ⟨S53x139, .f32⟩
  | .hbm, ⟨8, _⟩ => ⟨S53, .f32⟩
  | .hbm, ⟨9, _⟩ => ⟨S6x139x417, .f32⟩
  | .hbm, ⟨10, _⟩ => ⟨S6x139x417, .f32⟩
  | .hbm, ⟨11, _⟩ => ⟨S6x1x417, .f32⟩
  | .hbm, ⟨12, _⟩ => ⟨S6x1x417, .f32⟩
  | .hbm, ⟨13, _⟩ => ⟨S139x53, .f32⟩
  | .hbm, ⟨14, _⟩ => ⟨S1x53, .f32⟩
  | .hbm, ⟨15, _⟩ => ⟨S1x53, .f32⟩
  | .hbm, ⟨16, _⟩ => ⟨S6x1x139, .f32⟩
  | .local _ .vmem, ⟨0, _⟩ => ⟨S6x1x139, .f32⟩
  | .local _ .vmem, ⟨1, _⟩ => ⟨S53x139, .f32⟩
  | .local _ .vmem, ⟨2, _⟩ => ⟨S6x139x417, .f32⟩
  | .local _ .vmem, ⟨3, _⟩ => ⟨S6x139x417, .f32⟩
  | .local _ .vmem, ⟨4, _⟩ => ⟨S6x1x417, .f32⟩
  | .local _ .vmem, ⟨5, _⟩ => ⟨S6x1x417, .f32⟩
  | .local _ .vmem, ⟨6, _⟩ => ⟨S139x53, .f32⟩
  | .local _ .vmem, ⟨7, _⟩ => ⟨S1x53, .f32⟩
  | .local _ .vmem, ⟨8, _⟩ => ⟨S1x53, .f32⟩
  | .local _ .vmem, ⟨9, _⟩ => ⟨S6x1x139, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

def k0_off1 (v0 : BitVec 32) : Fin 2 → Nat :=
  let v1 : Index := Scalar.indexCast v0
  let c0_0 : Index := 0#32
  ![v1.toNat, 0]

def k0_chk1 (v0 : BitVec 32) : Prop :=
  (∀ a, (k0_off1 v0) a + S1x139.size a ≤ S53x139.size a)
theorem k0_off1_inb : ∀ (v0 : BitVec 32) (k0_hw1 : k0_chk1 v0), ∀ a, (k0_off1 v0) a + S1x139.size a ≤ S53x139.size a := fun v0 k0_hw1 => k0_hw1

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1x139 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S53x139 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x139x417 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x139x417 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1x417 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1x417 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S139x53 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x53 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x53 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x1x139 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S1 : Shape := ⟨1, ![1]⟩
abbrev S6x1x139 : Shape := ⟨3, ![6, 1, 139]⟩
abbrev S53x139 : Shape := ⟨2, ![53, 139]⟩
abbrev S6x417x139 : Shape := ⟨3, ![6, 417, 139]⟩
abbrev S6x417 : Shape := ⟨2, ![6, 417]⟩
abbrev S53 : Shape := ⟨1, ![53]⟩
abbrev S_ : Shape := ⟨0, ![]⟩
abbrev S1x1 : Shape := ⟨2, ![1, 1]⟩
abbrev S1x139 : Shape := ⟨2, ![1, 139]⟩
abbrev S139 : Shape := ⟨1, ![139]⟩
abbrev S1x1x139 : Shape := ⟨3, ![1, 1, 139]⟩
abbrev S1x417x139 : Shape := ⟨3, ![1, 417, 139]⟩
abbrev S417x139 : Shape := ⟨2, ![417, 139]⟩
abbrev S417 : Shape := ⟨1, ![417]⟩
abbrev S1x417 : Shape := ⟨2, ![1, 417]⟩
abbrev S6x139 : Shape := ⟨2, ![6, 139]⟩
abbrev S139x53 : Shape := ⟨2, ![139, 53]⟩
abbrev S1x53 : Shape := ⟨2, ![1, 53]⟩

abbrev nBuf : Space → Nat
  | .hbm => 326
  | .vmem => 0
  | .smem => 0
  | _ => 0

abbrev hbmTy0_0 (i : Nat) : BufTy := match i % 128 with
  | 0 => ⟨S1, .i32⟩
  | 1 => ⟨S6x1x139, .f32⟩
  | 2 => ⟨S53x139, .f32⟩
  | 3 => ⟨S6x417x139, .f32⟩
  | 4 => ⟨S6x417x139, .f32⟩
  | 5 => ⟨S6x417, .f32⟩
  | 6 => ⟨S6x417, .f32⟩
  | 7 => ⟨S53x139, .f32⟩
  | 8 => ⟨S53, .f32⟩
  | 9 => ⟨S_, .i32⟩
  | 10 => ⟨S1, .i32⟩
  | 11 => ⟨S1, .i1⟩
  | 12 => ⟨S_, .i32⟩
  | 13 => ⟨S1, .i32⟩
  | 14 => ⟨S1, .i32⟩
  | 15 => ⟨S1, .i32⟩
  | 16 => ⟨S1x1, .i32⟩
  | 17 => ⟨S1, .i32⟩
  | 18 => ⟨S_, .i32⟩
  | 19 => ⟨S1x1, .i32⟩
  | 20 => ⟨S1x1, .i1⟩
  | 21 => ⟨S1x1, .i32⟩
  | 22 => ⟨S1x1, .i1⟩
  | 23 => ⟨S1x1, .i1⟩
  | 24 => ⟨S_, .i1⟩
  | 25 => ⟨S1, .i1⟩
  | 26 => ⟨S1x139, .f32⟩
  | 27 => ⟨S1x139, .i1⟩
  | 28 => ⟨S_, .f32⟩
  | 29 => ⟨S1x139, .f32⟩
  | 30 => ⟨S1x139, .f32⟩
  | 31 => ⟨S139, .f32⟩
  | 32 => ⟨S1x1x139, .f32⟩
  | 33 => ⟨S139, .f32⟩
  | 34 => ⟨S1x417x139, .f32⟩
  | 35 => ⟨S417x139, .f32⟩
  | 36 => ⟨S417, .f32⟩
  | 37 => ⟨S1x417, .f32⟩
  | 38 => ⟨S417, .f32⟩
  | 39 => ⟨S417, .f32⟩
  | 40 => ⟨S1x417x139, .f32⟩
  | 41 => ⟨S417x139, .f32⟩
  | 42 => ⟨S417, .f32⟩
  | 43 => ⟨S1x417, .f32⟩
  | 44 => ⟨S417, .f32⟩
  | 45 => ⟨S417, .f32⟩
  | 46 => ⟨S139, .f32⟩
  | 47 => ⟨S139, .f32⟩
  | 48 => ⟨S139, .f32⟩
  | 49 => ⟨S139, .f32⟩
  | 50 => ⟨S139, .f32⟩
  | 51 => ⟨S_, .f32⟩
  | 52 => ⟨S139, .f32⟩
  | 53 => ⟨S139, .f32⟩
  | 54 => ⟨S_, .f32⟩
  | 55 => ⟨S139, .f32⟩
  | 56 => ⟨S139, .f32⟩
  | 57 => ⟨S139, .f32⟩
  | 58 => ⟨S139, .f32⟩
  | 59 => ⟨S139, .f32⟩
  | 60 => ⟨S139, .f32⟩
  | 61 => ⟨S139, .f32⟩
  | 62 => ⟨S_, .f32⟩
  | 63 => ⟨S139, .f32⟩
  | 64 => ⟨S139, .f32⟩
  | 65 => ⟨S_, .f32⟩
  | 66 => ⟨S139, .f32⟩
  | 67 => ⟨S139, .f32⟩
  | 68 => ⟨S139, .f32⟩
  | 69 => ⟨S139, .f32⟩
  | 70 => ⟨S139, .f32⟩
  | 71 => ⟨S139, .f32⟩
  | 72 => ⟨S139, .f32⟩
  | 73 => ⟨S_, .f32⟩
  | 74 => ⟨S139, .f32⟩
  | 75 => ⟨S139, .f32⟩
  | 76 => ⟨S139, .f32⟩
  | 77 => ⟨S139, .f32⟩
  | 78 => ⟨S139, .f32⟩
  | 79 => ⟨S1x1x139, .f32⟩
  | 80 => ⟨S139, .f32⟩
  | 81 => ⟨S1x417x139, .f32⟩
  | 82 => ⟨S417x139, .f32⟩
  | 83 => ⟨S417, .f32⟩
  | 84 => ⟨S1x417, .f32⟩
  | 85 => ⟨S417, .f32⟩
  | 86 => ⟨S417, .f32⟩
  | 87 => ⟨S1x417x139, .f32⟩
  | 88 => ⟨S417x139, .f32⟩
  | 89 => ⟨S417, .f32⟩
  | 90 => ⟨S1x417, .f32⟩
  | 91 => ⟨S417, .f32⟩
  | 92 => ⟨S417, .f32⟩
  | 93 => ⟨S139, .f32⟩
  | 94 => ⟨S139, .f32⟩
  | 95 => ⟨S139, .f32⟩
  | 96 => ⟨S139, .f32⟩
  | 97 => ⟨S139, .f32⟩
  | 98 => ⟨S_, .f32⟩
  | 99 => ⟨S139, .f32⟩
  | 100 => ⟨S139, .f32⟩
  | 101 => ⟨S_, .f32⟩
  | 102 => ⟨S139, .f32⟩
  | 103 => ⟨S139, .f32⟩
  | 104 => ⟨S139, .f32⟩
  | 105 => ⟨S139, .f32⟩
  | 106 => ⟨S139, .f32⟩
  | 107 => ⟨S139, .f32⟩
  | 108 => ⟨S139, .f32⟩
  | 109 => ⟨S_, .f32⟩
  | 110 => ⟨S139, .f32⟩
  | 111 => ⟨S139, .f32⟩
  | 112 => ⟨S_, .f32⟩
  | 113 => ⟨S139, .f32⟩
  | 114 => ⟨S139, .f32⟩
  | 115 => ⟨S139, .f32⟩
  | 116 => ⟨S139, .f32⟩
  | 117 => ⟨S139, .f32⟩
  | 118 => ⟨S139, .f32⟩
  | 119 => ⟨S139, .f32⟩
  | 120 => ⟨S_, .f32⟩
  | 121 => ⟨S139, .f32⟩
  | 122 => ⟨S139, .f32⟩
  | 123 => ⟨S139, .f32⟩
  | 124 => ⟨S139, .f32⟩
  | 125 => ⟨S139, .f32⟩
  | 126 => ⟨S1x1x139, .f32⟩
  | 127 => ⟨S139, .f32⟩
  | _ => ⟨S1, .i32⟩

abbrev hbmTy0_1 (i : Nat) : BufTy := match i % 128 with
  | 0 => ⟨S1x417x139, .f32⟩
  | 1 => ⟨S417x139, .f32⟩
  | 2 => ⟨S417, .f32⟩
  | 3 => ⟨S1x417, .f32⟩
  | 4 => ⟨S417, .f32⟩
  | 5 => ⟨S417, .f32⟩
  | 6 => ⟨S1x417x139, .f32⟩
  | 7 => ⟨S417x139, .f32⟩
  | 8 => ⟨S417, .f32⟩
  | 9 => ⟨S1x417, .f32⟩
  | 10 => ⟨S417, .f32⟩
  | 11 => ⟨S417, .f32⟩
  | 12 => ⟨S139, .f32⟩
  | 13 => ⟨S139, .f32⟩
  | 14 => ⟨S139, .f32⟩
  | 15 => ⟨S139, .f32⟩
  | 16 => ⟨S139, .f32⟩
  | 17 => ⟨S_, .f32⟩
  | 18 => ⟨S139, .f32⟩
  | 19 => ⟨S139, .f32⟩
  | 20 => ⟨S_, .f32⟩
  | 21 => ⟨S139, .f32⟩
  | 22 => ⟨S139, .f32⟩
  | 23 => ⟨S139, .f32⟩
  | 24 => ⟨S139, .f32⟩
  | 25 => ⟨S139, .f32⟩
  | 26 => ⟨S139, .f32⟩
  | 27 => ⟨S139, .f32⟩
  | 28 => ⟨S_, .f32⟩
  | 29 => ⟨S139, .f32⟩
  | 30 => ⟨S139, .f32⟩
  | 31 => ⟨S_, .f32⟩
  | 32 => ⟨S139, .f32⟩
  | 33 => ⟨S139, .f32⟩
  | 34 => ⟨S139, .f32⟩
  | 35 => ⟨S139, .f32⟩
  | 36 => ⟨S139, .f32⟩
  | 37 => ⟨S139, .f32⟩
  | 38 => ⟨S139, .f32⟩
  | 39 => ⟨S_, .f32⟩
  | 40 => ⟨S139, .f32⟩
  | 41 => ⟨S139, .f32⟩
  | 42 => ⟨S139, .f32⟩
  | 43 => ⟨S139, .f32⟩
  | 44 => ⟨S139, .f32⟩
  | 45 => ⟨S1x1x139, .f32⟩
  | 46 => ⟨S139, .f32⟩
  | 47 => ⟨S1x417x139, .f32⟩
  | 48 => ⟨S417x139, .f32⟩
  | 49 => ⟨S417, .f32⟩
  | 50 => ⟨S1x417, .f32⟩
  | 51 => ⟨S417, .f32⟩
  | 52 => ⟨S417, .f32⟩
  | 53 => ⟨S1x417x139, .f32⟩
  | 54 => ⟨S417x139, .f32⟩
  | 55 => ⟨S417, .f32⟩
  | 56 => ⟨S1x417, .f32⟩
  | 57 => ⟨S417, .f32⟩
  | 58 => ⟨S417, .f32⟩
  | 59 => ⟨S139, .f32⟩
  | 60 => ⟨S139, .f32⟩
  | 61 => ⟨S139, .f32⟩
  | 62 => ⟨S139, .f32⟩
  | 63 => ⟨S139, .f32⟩
  | 64 => ⟨S_, .f32⟩
  | 65 => ⟨S139, .f32⟩
  | 66 => ⟨S139, .f32⟩
  | 67 => ⟨S_, .f32⟩
  | 68 => ⟨S139, .f32⟩
  | 69 => ⟨S139, .f32⟩
  | 70 => ⟨S139, .f32⟩
  | 71 => ⟨S139, .f32⟩
  | 72 => ⟨S139, .f32⟩
  | 73 => ⟨S139, .f32⟩
  | 74 => ⟨S139, .f32⟩
  | 75 => ⟨S_, .f32⟩
  | 76 => ⟨S139, .f32⟩
  | 77 => ⟨S139, .f32⟩
  | 78 => ⟨S_, .f32⟩
  | 79 => ⟨S139, .f32⟩
  | 80 => ⟨S139, .f32⟩
  | 81 => ⟨S139, .f32⟩
  | 82 => ⟨S139, .f32⟩
  | 83 => ⟨S139, .f32⟩
  | 84 => ⟨S139, .f32⟩
  | 85 => ⟨S139, .f32⟩
  | 86 => ⟨S_, .f32⟩
  | 87 => ⟨S139, .f32⟩
  | 88 => ⟨S139, .f32⟩
  | 89 => ⟨S139, .f32⟩
  | 90 => ⟨S139, .f32⟩
  | 91 => ⟨S139, .f32⟩
  | 92 => ⟨S1x1x139, .f32⟩
  | 93 => ⟨S139, .f32⟩
  | 94 => ⟨S1x417x139, .f32⟩
  | 95 => ⟨S417x139, .f32⟩
  | 96 => ⟨S417, .f32⟩
  | 97 => ⟨S1x417, .f32⟩
  | 98 => ⟨S417, .f32⟩
  | 99 => ⟨S417, .f32⟩
  | 100 => ⟨S1x417x139, .f32⟩
  | 101 => ⟨S417x139, .f32⟩
  | 102 => ⟨S417, .f32⟩
  | 103 => ⟨S1x417, .f32⟩
  | 104 => ⟨S417, .f32⟩
  | 105 => ⟨S417, .f32⟩
  | 106 => ⟨S139, .f32⟩
  | 107 => ⟨S139, .f32⟩
  | 108 => ⟨S139, .f32⟩
  | 109 => ⟨S139, .f32⟩
  | 110 => ⟨S139, .f32⟩
  | 111 => ⟨S_, .f32⟩
  | 112 => ⟨S139, .f32⟩
  | 113 => ⟨S139, .f32⟩
  | 114 => ⟨S_, .f32⟩
  | 115 => ⟨S139, .f32⟩
  | 116 => ⟨S139, .f32⟩
  | 117 => ⟨S139, .f32⟩
  | 118 => ⟨S139, .f32⟩
  | 119 => ⟨S139, .f32⟩
  | 120 => ⟨S139, .f32⟩
  | 121 => ⟨S139, .f32⟩
  | 122 => ⟨S_, .f32⟩
  | 123 => ⟨S139, .f32⟩
  | 124 => ⟨S139, .f32⟩
  | 125 => ⟨S_, .f32⟩
  | 126 => ⟨S139, .f32⟩
  | 127 => ⟨S139, .f32⟩
  | _ => ⟨S1, .i32⟩

abbrev hbmTy0_2 (i : Nat) : BufTy := match i % 128 with
  | 0 => ⟨S139, .f32⟩
  | 1 => ⟨S139, .f32⟩
  | 2 => ⟨S139, .f32⟩
  | 3 => ⟨S139, .f32⟩
  | 4 => ⟨S139, .f32⟩
  | 5 => ⟨S_, .f32⟩
  | 6 => ⟨S139, .f32⟩
  | 7 => ⟨S139, .f32⟩
  | 8 => ⟨S139, .f32⟩
  | 9 => ⟨S139, .f32⟩
  | 10 => ⟨S139, .f32⟩
  | 11 => ⟨S1x1x139, .f32⟩
  | 12 => ⟨S139, .f32⟩
  | 13 => ⟨S1x417x139, .f32⟩
  | 14 => ⟨S417x139, .f32⟩
  | 15 => ⟨S417, .f32⟩
  | 16 => ⟨S1x417, .f32⟩
  | 17 => ⟨S417, .f32⟩
  | 18 => ⟨S417, .f32⟩
  | 19 => ⟨S1x417x139, .f32⟩
  | 20 => ⟨S417x139, .f32⟩
  | 21 => ⟨S417, .f32⟩
  | 22 => ⟨S1x417, .f32⟩
  | 23 => ⟨S417, .f32⟩
  | 24 => ⟨S417, .f32⟩
  | 25 => ⟨S139, .f32⟩
  | 26 => ⟨S139, .f32⟩
  | 27 => ⟨S139, .f32⟩
  | 28 => ⟨S139, .f32⟩
  | 29 => ⟨S139, .f32⟩
  | 30 => ⟨S_, .f32⟩
  | 31 => ⟨S139, .f32⟩
  | 32 => ⟨S139, .f32⟩
  | 33 => ⟨S_, .f32⟩
  | 34 => ⟨S139, .f32⟩
  | 35 => ⟨S139, .f32⟩
  | 36 => ⟨S139, .f32⟩
  | 37 => ⟨S139, .f32⟩
  | 38 => ⟨S139, .f32⟩
  | 39 => ⟨S139, .f32⟩
  | 40 => ⟨S139, .f32⟩
  | 41 => ⟨S_, .f32⟩
  | 42 => ⟨S139, .f32⟩
  | 43 => ⟨S139, .f32⟩
  | 44 => ⟨S_, .f32⟩
  | 45 => ⟨S139, .f32⟩
  | 46 => ⟨S139, .f32⟩
  | 47 => ⟨S139, .f32⟩
  | 48 => ⟨S139, .f32⟩
  | 49 => ⟨S139, .f32⟩
  | 50 => ⟨S139, .f32⟩
  | 51 => ⟨S139, .f32⟩
  | 52 => ⟨S_, .f32⟩
  | 53 => ⟨S139, .f32⟩
  | 54 => ⟨S139, .f32⟩
  | 55 => ⟨S139, .f32⟩
  | 56 => ⟨S139, .f32⟩
  | 57 => ⟨S139, .f32⟩
  | 58 => ⟨S1x139, .f32⟩
  | 59 => ⟨S1x139, .f32⟩
  | 60 => ⟨S1x139, .f32⟩
  | 61 => ⟨S1x139, .f32⟩
  | 62 => ⟨S1x139, .f32⟩
  | 63 => ⟨S1x139, .f32⟩
  | 64 => ⟨S6x139, .f32⟩
  | 65 => ⟨S6x1x139, .f32⟩
  | 66 => ⟨S139x53, .f32⟩
  | 67 => ⟨S53, .f32⟩
  | 68 => ⟨S53, .f32⟩
  | 69 => ⟨S1x53, .f32⟩
  | _ => ⟨S1, .i32⟩

abbrev hbmTy (i : Nat) : BufTy := match i / 128 with
  | 0 => hbmTy0_0 i
  | 1 => hbmTy0_1 i
  | 2 => hbmTy0_2 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst : Ref sig .tc := ⟨.hbm, 51, rfl⟩
abbrev main_v21 : Ref sig .tc := ⟨.hbm, 52, rfl⟩
abbrev main_v22 : Ref sig .tc := ⟨.hbm, 53, rfl⟩
abbrev main_cst_0 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_1 : Ref sig .tc := ⟨.hbm, 62, rfl⟩
abbrev main_v30 : Ref sig .tc := ⟨.hbm, 63, rfl⟩
abbrev main_v31 : Ref sig .tc := ⟨.hbm, 64, rfl⟩
abbrev main_cst_2 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_3 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_4 : Ref sig .tc := ⟨.hbm, 98, rfl⟩
abbrev main_v63 : Ref sig .tc := ⟨.hbm, 99, rfl⟩
abbrev main_v64 : Ref sig .tc := ⟨.hbm, 100, rfl⟩
abbrev main_cst_5 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_6 : Ref sig .tc := ⟨.hbm, 109, rfl⟩
abbrev main_v72 : Ref sig .tc := ⟨.hbm, 110, rfl⟩
abbrev main_v73 : Ref sig .tc := ⟨.hbm, 111, rfl⟩
abbrev main_cst_7 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_8 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_9 : Ref sig .tc := ⟨.hbm, 145, rfl⟩
abbrev main_v105 : Ref sig .tc := ⟨.hbm, 146, rfl⟩
abbrev main_v106 : Ref sig .tc := ⟨.hbm, 147, rfl⟩
abbrev main_cst_10 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_11 : Ref sig .tc := ⟨.hbm, 156, rfl⟩
abbrev main_v114 : Ref sig .tc := ⟨.hbm, 157, rfl⟩
abbrev main_v115 : Ref sig .tc := ⟨.hbm, 158, rfl⟩
abbrev main_cst_12 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_13 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_14 : Ref sig .tc := ⟨.hbm, 192, rfl⟩
abbrev main_v147 : Ref sig .tc := ⟨.hbm, 193, rfl⟩
abbrev main_v148 : Ref sig .tc := ⟨.hbm, 194, rfl⟩
abbrev main_cst_15 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_16 : Ref sig .tc := ⟨.hbm, 203, rfl⟩
abbrev main_v156 : Ref sig .tc := ⟨.hbm, 204, rfl⟩
abbrev main_v157 : Ref sig .tc := ⟨.hbm, 205, rfl⟩
abbrev main_cst_17 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_cst_18 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_cst_19 : Ref sig .tc := ⟨.hbm, 239, rfl⟩
abbrev main_v189 : Ref sig .tc := ⟨.hbm, 240, rfl⟩
abbrev main_v190 : Ref sig .tc := ⟨.hbm, 241, rfl⟩
abbrev main_cst_20 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_cst_21 : Ref sig .tc := ⟨.hbm, 250, rfl⟩
abbrev main_v198 : Ref sig .tc := ⟨.hbm, 251, rfl⟩
abbrev main_v199 : Ref sig .tc := ⟨.hbm, 252, rfl⟩
abbrev main_cst_22 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_cst_23 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_cst_24 : Ref sig .tc := ⟨.hbm, 286, rfl⟩
abbrev main_v231 : Ref sig .tc := ⟨.hbm, 287, rfl⟩
abbrev main_v232 : Ref sig .tc := ⟨.hbm, 288, rfl⟩
abbrev main_cst_25 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_cst_26 : Ref sig .tc := ⟨.hbm, 297, rfl⟩
abbrev main_v240 : Ref sig .tc := ⟨.hbm, 298, rfl⟩
abbrev main_v241 : Ref sig .tc := ⟨.hbm, 299, rfl⟩
abbrev main_cst_27 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_cst_28 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩

abbrev nD : Nat := 1
abbrev τ : Topo := Topo.v7x

variable {F : FTy → Type} [FloatOps F]
-- ==== Proof.Token.lean ====
/- What the precondition says of the token, and that it puts the embedding row that the kernel loads inside the table. -/
module

public import proofs.«01_k».proof.Defs
public import proofs.«01_k».proof.Proof.Gen.Pre_token_in_range
public import proofs.«01_k».proof.Proof.Gen.Kernel.Frame
public import proofs.«01_k».proof.Proof.Gen.KernelIdeal.Frame

@[expose] public section

namespace Cert.Token

open Idealize.ShloMosaic Idealize.ShloMosaic.TcCoe

/-- A token that meets the precondition is below 53. -/
theorem lt_of_pre {F : FTy → Type} [FloatOps F] [Cert.Pre_token_in_range.Facts]
    (x0 : IVec Pre_token_in_range.S1 32) (x1 : FVec F Pre_token_in_range.S6x1x139 .f32)
    (x2 : FVec F Pre_token_in_range.S53x139 .f32) (x3 x4 : FVec F Pre_token_in_range.S6x417x139 .f32)
    (x5 x6 : FVec F Pre_token_in_range.S6x417 .f32) (x7 : FVec F Pre_token_in_range.S53x139 .f32)
    (x8 : FVec F Pre_token_in_range.S53 .f32)
    (h : Pre_token_in_range.fn x0 x1 x2 x3 x4 x5 x6 x7 x8 = fun _ => 1#1) (i : Pre_token_in_range.S1.Idx) : (x0 i).toNat < 53 := by
  have both (p q : Bool) (e : IntOp.andi (BitVec.ofBool p) (BitVec.ofBool q) = 1#1) : p = true ∧ q = true := by
    revert e; cases p <;> cases q <;> decide
  obtain ⟨lo, hi⟩ := both _ _ (congrFun h i)
  simp only [BitVec.sle, BitVec.slt, decide_eq_true_eq, BitVec.toInt, broadcastInDim, constantI, BitVec.toNat_ofNat] at lo hi
  omega

end Cert.Token

namespace Cert.Kernel.Hand

open Cert.Kernel Cert.Kernel.Gen
open Idealize.ShloMosaic Idealize.ShloMosaic.TcCoe

/-- Under the precondition the row that the body loads lies in the embedding table. -/
theorem hyps_of_pre (m : (ℓ : Loc nD τ sig) → Buf (Elt Bits) ℓ) (h : Cert.Pre_Kernel m) : Hyps m := fun c t => by
  have word (i : S1.Idx) : (iblk m c 0 t i).toNat < 53 := by
    unfold iblk
    rw [View.read_apply, cast_eq]
    exact Token.lt_of_pre _ _ _ _ _ _ _ _ _ (h c) _
  have inside (v : BitVec 32) (hv : v.toNat < 53) : k0_chk1 v := by
    intro a
    match a with
    | ⟨0, _⟩ => show v.toNat + 1 ≤ 53; omega
    | ⟨1, _⟩ => show 0 + 139 ≤ 139; omega
  rw [View.readAt_apply, Memref.IsWhole.read_unread]
  exact inside _ (word _)

end Cert.Kernel.Hand

namespace Cert.KernelIdeal.Hand

open Cert.KernelIdeal Cert.KernelIdeal.Gen
open Idealize.ShloMosaic Idealize.ShloMosaic.TcCoe

/-- The same of the idealized kernel. -/
theorem hyps_of_pre (m : (ℓ : Loc nD τ sig) → Buf (Elt Ideal) ℓ) (h : Cert.Pre_KernelIdeal m) : Hyps m := fun c t => by
  have word (i : S1.Idx) : (iblk m c 0 t i).toNat < 53 := by
    unfold iblk
    rw [View.read_apply, cast_eq]
    exact Token.lt_of_pre _ _ _ _ _ _ _ _ _ (h c) _
  have inside (v : BitVec 32) (hv : v.toNat < 53) : k0_chk1 v := by
    intro a
    match a with
    | ⟨0, _⟩ => show v.toNat + 1 ≤ 53; omega
    | ⟨1, _⟩ => show 0 + 139 ≤ 139; omega
  rw [View.readAt_apply, Memref.IsWhole.read_unread]
  exact inside _ (word _)

end Cert.KernelIdeal.Hand
-- ==== Proof.Gru.lean ====
/- Six stacked gated recurrent cells and a linear decoder, over the extended reals: the function that both programs
   compute. A layer forms two rows of 417 pre-activations, one from its input and one from its old hidden row; the three
   thirds of a row belong to the reset gate, the update gate and the candidate. -/
module

public import Idealize.ShloMosaic.PureOps.Ideal
public import Idealize.ShloMosaic.Lib.ValueIdx

@[expose] public section

noncomputable section

namespace Cert.Gru

open Idealize.ShloMosaic Idealize.ShloMosaic.ValueIdx
open scoped BigOperators

/-- The place of unit `j` in the reset third of a row of pre-activations. -/
abbrev reset (j : Fin 139) : Fin 417 := ⟨j.val, by omega⟩

/-- The place of unit `j` in the update third. -/
abbrev update (j : Fin 139) : Fin 417 := ⟨139 + j.val, by omega⟩

/-- The place of unit `j` in the candidate third. -/
abbrev cand (j : Fin 139) : Fin 417 := ⟨278 + j.val, by omega⟩

/-- A row times a matrix, plus a bias. -/
def affine {N : ℕ} (w : Fin 139 → Fin N → EReal) (b : Fin N → EReal) (x : Fin 139 → EReal) (j : Fin N) : EReal :=
  (∑ k, x k * w k j) + b j

/-- One cell: from the input's pre-activations `gi`, the hidden row's `gh` and the hidden row `h`, the new hidden row. -/
def cell (gi gh : Fin 417 → EReal) (h : Fin 139 → EReal) (j : Fin 139) : EReal :=
  (1 - Ideal.logistic (gi (update j) + gh (update j)))
      * Ideal.tanh (gi (cand j) + Ideal.logistic (gi (reset j) + gh (reset j)) * gh (cand j))
    + Ideal.logistic (gi (update j) + gh (update j)) * h j

/-- What the network is run on: the token's embedding, each layer's old hidden row, weights and biases, and the
    decoder's. -/
@[ext] structure Data where
  x : Fin 139 → EReal
  h : Fin 6 → Fin 139 → EReal
  wi : Fin 6 → Fin 139 → Fin 417 → EReal
  wh : Fin 6 → Fin 139 → Fin 417 → EReal
  bi : Fin 6 → Fin 417 → EReal
  bh : Fin 6 → Fin 417 → EReal
  wd : Fin 139 → Fin 53 → EReal
  bd : Fin 53 → EReal

variable (d : Data)

/-- Layer `l` at the input row `x`. -/
def layer (l : Fin 6) (x : Fin 139 → EReal) : Fin 139 → EReal :=
  cell (affine (d.wi l) (d.bi l) x) (affine (d.wh l) (d.bh l) (d.h l)) (d.h l)

/-- The new hidden row of layer `n`, which is the input of the layer above. -/
def hid : (n : ℕ) → n < 6 → Fin 139 → EReal
  | 0, hn => layer d ⟨0, hn⟩ d.x
  | n + 1, hn => layer d ⟨n + 1, hn⟩ (hid n (by omega))

/-- The scores of the 53 next tokens. -/
def scores : Fin 53 → EReal := affine d.wd d.bd (hid d 5 (by decide))

/-- The data that token `t` and the eight argument arrays stand for. -/
def ofArrays (t : Fin 53) (hidden : FVec Ideal ⟨3, ![6, 1, 139]⟩ .f32) (emb : FVec Ideal ⟨2, ![53, 139]⟩ .f32)
    (wih whh : FVec Ideal ⟨3, ![6, 417, 139]⟩ .f32) (bih bhh : FVec Ideal ⟨2, ![6, 417]⟩ .f32)
    (wdec : FVec Ideal ⟨2, ![53, 139]⟩ .f32) (bdec : FVec Ideal ⟨1, ![53]⟩ .f32) : Data where
  x k := emb (ix2 t k)
  h l k := hidden (ix3 l 0 k)
  wi l k j := wih (ix3 l j k)
  wh l k j := whh (ix3 l j k)
  bi l j := bih (ix2 l j)
  bh l j := bhh (ix2 l j)
  wd k v := wdec (ix2 v k)
  bd v := bdec (ix1 v)

end Cert.Gru

end
-- ==== Proof.KernelVec.lean ====
/- The kernel's layer as an expression of rows, and its value at a unit. The names here are for the expressions that the
   kernel's body computes layer by layer. -/
module

public import proofs.«01_k».proof.Proof.Gen.KernelIdeal
public import proofs.«01_k».proof.Proof.Gru
public import Idealize.ShloMosaic.PureOps.Ideal.Laws
public import Idealize.ShloMosaic.Lib.MatmulPlain
public import Idealize.ShloMosaic.Lib.ValueLayout
public import Idealize.ShloMosaic.Lib.IdealHost

@[expose] public section

noncomputable section

namespace Cert.KernelIdeal.Hand

open Cert.KernelIdeal Cert.KernelIdeal.Gen Cert.Gru
open Idealize.ShloMosaic Idealize.ShloMosaic.ValueIdx
open scoped BigOperators

/-- Block `l` of an array of six blocks. -/
def slab {N C : ℕ} (X : FVec Ideal ⟨3, ![6, N, C]⟩ .f32) (l : Fin 6) : FVec Ideal ⟨3, ![1, N, C]⟩ .f32 :=
  fun y => X (ix3 l (y 1) (y 2))

/-- A row of pre-activations: the row `x` times the weights `w`, plus the bias `b`. -/
def gates (x : FVec Ideal S1x139 .f32) (w : FVec Ideal S1x139x417 .f32) (b : FVec Ideal S1x1x417 .f32) : FVec Ideal S1x417 .f32 :=
  addf (matmul dot_S1x139_S139x417_S1x417_1_0_0_1_n_n none (truncf .bf16 x bitsLt_bf16_f32)
      (truncf .bf16 (shapeCast S139x417 w shapeCasts_S1x139x417_S139x417) bitsLt_bf16_f32) (constant S1x417 .f32 0x00000000#32))
    (shapeCast S1x417 b shapeCasts_S1x1x417_S1x417)

/-- The logistic function of the sum of two rows' thirds at 0. -/
def resetRow (gi gh : FVec Ideal S1x417 .f32) : FVec Ideal S1x139 .f32 :=
  logistic (addf (extractStridedSlice S1x139 ![0, 0] gi slices_S1x417_o0_0_S1x139)
    (extractStridedSlice S1x139 ![0, 0] gh slices_S1x417_o0_0_S1x139))

/-- The logistic function of the sum of two rows' thirds at 139. -/
def updateRow (gi gh : FVec Ideal S1x417 .f32) : FVec Ideal S1x139 .f32 :=
  logistic (addf (extractStridedSlice S1x139 ![0, 139] gi slices_S1x417_o0_139_S1x139)
    (extractStridedSlice S1x139 ![0, 139] gh slices_S1x417_o0_139_S1x139))

/-- The new hidden row from two rows of pre-activations and the old hidden row. -/
def cellRow (gi gh : FVec Ideal S1x417 .f32) (h : FVec Ideal S1x139 .f32) : FVec Ideal S1x139 .f32 :=
  addf (mulf (subf (broadcast S1x139 (Scalar.ofBits .f32 0x3F800000#32)) (updateRow gi gh))
      (tanh (addf (extractStridedSlice S1x139 ![0, 278] gi slices_S1x417_o0_278_S1x139)
        (mulf (resetRow gi gh) (extractStridedSlice S1x139 ![0, 278] gh slices_S1x417_o0_278_S1x139)))))
    (mulf (updateRow gi gh) h)

/-- A block of one row as a row. -/
abbrev rowOf (h : FVec Ideal S1x1x139 .f32) : FVec Ideal S1x139 .f32 := shapeCast S1x139 h shapeCasts_S1x1x139_S1x139

/-- A layer: its input row, its weights and biases, its old hidden row. -/
def layerRow (x : FVec Ideal S1x139 .f32) (wi wh : FVec Ideal S1x139x417 .f32) (bi bh : FVec Ideal S1x1x417 .f32)
    (h : FVec Ideal S1x1x139 .f32) : FVec Ideal S1x139 .f32 :=
  cellRow (gates x wi bi) (gates (rowOf h) wh bh) (rowOf h)

/-- The decoder's row of scores. -/
def scoresRow (x : FVec Ideal S1x139 .f32) (w : FVec Ideal S139x53 .f32) (b : FVec Ideal S1x53 .f32) : FVec Ideal S1x53 .f32 :=
  addf (matmul dot_S1x139_S139x53_S1x53_1_0_0_1_n_n none (truncf .bf16 x bitsLt_bf16_f32) (truncf .bf16 w bitsLt_bf16_f32)
      (constant S1x53 .f32 0x00000000#32)) b

/-- The new hidden row of layer `n`. -/
def hidRow (x : FVec Ideal S1x139 .f32) (h : FVec Ideal S6x1x139 .f32) (wi wh : FVec Ideal S6x139x417 .f32)
    (bi bh : FVec Ideal S6x1x417 .f32) : (n : ℕ) → n < 6 → FVec Ideal S1x139 .f32
  | 0, hn => layerRow x (slab wi ⟨0, hn⟩) (slab wh ⟨0, hn⟩) (slab bi ⟨0, hn⟩) (slab bh ⟨0, hn⟩) (slab h ⟨0, hn⟩)
  | n + 1, hn => layerRow (hidRow x h wi wh bi bh n (by omega)) (slab wi ⟨n + 1, hn⟩) (slab wh ⟨n + 1, hn⟩)
      (slab bi ⟨n + 1, hn⟩) (slab bh ⟨n + 1, hn⟩) (slab h ⟨n + 1, hn⟩)

/-- A row of pre-activations at a place. -/
theorem gates_apply (x : FVec Ideal S1x139 .f32) (w : FVec Ideal S1x139x417 .f32) (b : FVec Ideal S1x1x417 .f32) (j : Fin 417) :
    gates x w b (ix2 0 j) = affine (fun k j => w (ix3 0 k j)) (fun j => b (ix3 0 0 j)) (fun k => x (ix2 0 k)) j := by
  unfold gates affine
  rw [addf_apply]
  refine congrArg₂ (· + ·) ?_ (shapeCast_1ab_ab_apply _ _ _ _)
  refine (Ideal.matmul_plain_apply (M := 1) (K := 139) (N := 417) none _ _ _ 0 j).trans ?_
  rw [constant_apply, Ideal.ofBits_zero_f32, zero_add]
  refine Finset.sum_congr rfl fun k _ => congrArg (x (ix2 0 k) * ·) ?_
  exact shapeCast_1ab_ab_apply _ _ _ _

/-- The decoder's row at a token. -/
theorem scoresRow_apply (x : FVec Ideal S1x139 .f32) (w : FVec Ideal S139x53 .f32) (b : FVec Ideal S1x53 .f32) (v : Fin 53) :
    scoresRow x w b (ix2 0 v) = affine (fun k v => w (ix2 k v)) (fun v => b (ix2 0 v)) (fun k => x (ix2 0 k)) v := by
  unfold scoresRow affine
  rw [addf_apply]
  refine congrArg₂ (· + ·) ?_ rfl
  refine (Ideal.matmul_plain_apply (M := 1) (K := 139) (N := 53) none _ _ _ 0 v).trans ?_
  rw [constant_apply, Ideal.ofBits_zero_f32, zero_add]
  rfl

/-- A cell's row at a unit. -/
theorem cellRow_apply (gi gh : FVec Ideal S1x417 .f32) (h : FVec Ideal S1x139 .f32) (j : Fin 139) :
    cellRow gi gh h (ix2 0 j) = cell (fun j => gi (ix2 0 j)) (fun j => gh (ix2 0 j)) (fun j => h (ix2 0 j)) j := by
  have third (o : ℕ) (hs : S1x417.Slices ![0, o] S1x139) (ho : o + j.val < 417) (g : FVec Ideal S1x417 .f32) :
      extractStridedSlice S1x139 ![0, o] g hs (ix2 0 j) = g (ix2 0 ⟨o + j.val, ho⟩) := by
    refine extractStridedSlice_apply _ _ hs _ _ fun a => ?_
    match a with
    | ⟨0, _⟩ => rfl
    | ⟨1, _⟩ => rfl
  have r : resetRow gi gh (ix2 0 j) = Ideal.logistic (gi (ix2 0 (reset j)) + gh (ix2 0 (reset j))) := by
    show Ideal.logistic (_ + _) = _
    rw [third 0 _ (by omega), third 0 _ (by omega)]
    simp only [Nat.zero_add]
  have z : updateRow gi gh (ix2 0 j) = Ideal.logistic (gi (ix2 0 (update j)) + gh (ix2 0 (update j))) := by
    show Ideal.logistic (_ + _) = _
    rw [third 139 _ (by omega), third 139 _ (by omega)]
  show (Ideal.ofBits .f32 0x3F800000#32 - updateRow gi gh (ix2 0 j))
      * Ideal.tanh (extractStridedSlice S1x139 ![0, 278] gi slices_S1x417_o0_278_S1x139 (ix2 0 j)
        + resetRow gi gh (ix2 0 j) * extractStridedSlice S1x139 ![0, 278] gh slices_S1x417_o0_278_S1x139 (ix2 0 j))
      + updateRow gi gh (ix2 0 j) * h (ix2 0 j) = _
  rw [r, z, third 278 _ (by omega), third 278 _ (by omega), Ideal.ofBits_one_f32]
  rfl

/-- What the network is run on, read off the blocks the kernel holds. -/
def dataOf (x : FVec Ideal S1x139 .f32) (h : FVec Ideal S6x1x139 .f32) (wi wh : FVec Ideal S6x139x417 .f32)
    (bi bh : FVec Ideal S6x1x417 .f32) (wd : FVec Ideal S139x53 .f32) (bd : FVec Ideal S1x53 .f32) : Data where
  x k := x (ix2 0 k)
  h l k := h (ix3 l 0 k)
  wi l k j := wi (ix3 l k j)
  wh l k j := wh (ix3 l k j)
  bi l j := bi (ix3 l 0 j)
  bh l j := bh (ix3 l 0 j)
  wd k v := wd (ix2 k v)
  bd v := bd (ix2 0 v)

section
variable (x : FVec Ideal S1x139 .f32) (h : FVec Ideal S6x1x139 .f32) (wi wh : FVec Ideal S6x139x417 .f32)
  (bi bh : FVec Ideal S6x1x417 .f32) (wd : FVec Ideal S139x53 .f32) (bd : FVec Ideal S1x53 .f32)

/-- A layer's row over block `l` of the arrays, at a unit, is the layer of the network. -/
theorem layerRow_apply (l : Fin 6) (y : FVec Ideal S1x139 .f32) (j : Fin 139) :
    layerRow y (slab wi l) (slab wh l) (slab bi l) (slab bh l) (slab h l) (ix2 0 j)
      = layer (dataOf x h wi wh bi bh wd bd) l (fun k => y (ix2 0 k)) j := by
  have row (k : Fin 139) : rowOf (slab h l) (ix2 0 k) = h (ix3 l 0 k) := shapeCast_1ab_ab_apply _ _ _ _
  unfold layerRow
  rw [cellRow_apply]
  simp only [gates_apply, row]
  rfl

/-- The new hidden row of layer `n`, at a unit. -/
theorem hidRow_apply (n : ℕ) (hn : n < 6) (j : Fin 139) :
    hidRow x h wi wh bi bh n hn (ix2 0 j) = hid (dataOf x h wi wh bi bh wd bd) n hn j := by
  induction n generalizing j with
  | zero => exact layerRow_apply x h wi wh bi bh wd bd _ _ _
  | succ n ih =>
    refine (layerRow_apply x h wi wh bi bh wd bd _ _ _).trans ?_
    simp only [ih]
    rfl

/-- The row of scores that the decoder gives on the last layer's row. -/
theorem decoded_apply (v : Fin 53) :
    scoresRow (hidRow x h wi wh bi bh 5 (by decide)) wd bd (ix2 0 v) = scores (dataOf x h wi wh bi bh wd bd) v := by
  rw [scoresRow_apply]
  simp only [hidRow_apply x h wi wh bi bh wd bd]
  rfl

end

end Cert.KernelIdeal.Hand

end
-- ==== Proof.KernelRun.lean ====
/- What one run of the kernel's body leaves in its two outputs, at an index, in the rows of KernelVec. -/
module

public import proofs.«01_k».proof.Proof.Gen.KernelIdeal.Frame
public import proofs.«01_k».proof.Proof.KernelVec
public import Idealize.ShloMosaic.Lib.WritesUnit
public import Idealize.ShloMosaic.Lib.WholeRead

@[expose] public section

noncomputable section

namespace Cert.KernelIdeal.Hand

open Cert.KernelIdeal Cert.KernelIdeal.Gen Cert.Gru
open Idealize.ShloMosaic Idealize.ShloMosaic.ValueIdx Idealize.ShloMosaic.Tactic

/-- A load of block `o` of an array of six blocks is that block. -/
theorem readAt_slab {sp : Space} {N C o : ℕ} (a : Memref sig .tc sp ⟨3, ![6, N, C]⟩ .f32) (h : a.IsWhole)
    (X : FVec Ideal ⟨3, ![6, N, C]⟩ .f32)
    (inb : ∀ i, (![o, 0, 0] : Fin 3 → ℕ) i + (![1, N, C] : Fin 3 → ℕ) i ≤ (⟨3, ![6, N, C]⟩ : Shape).size i) (ho : o < 6) :
    a.view.readAt (Elt Ideal) (Rect.unit (s := ⟨3, ![6, N, C]⟩) ![o, 0, 0] ![1, N, C] inb).toLoadRect (h.unread X)
      = slab X ⟨o, ho⟩ := by
  funext y
  refine (h.readAt_unread (Val := Elt Ideal) X _ y).trans (congrArg X ?_)
  funext i; apply Fin.ext
  match i with
  | ⟨0, _⟩ =>
    have h0 : (y 0).val < 1 := (y 0).isLt
    show o + 1 * (y 0).val = o; omega
  | ⟨1, _⟩ => show 0 + 1 * (y 1).val = (y 1).val; omega
  | ⟨2, _⟩ => show 0 + 1 * (y 2).val = (y 2).val; omega

/-- A load of a whole array of two axes is the array. -/
theorem readAt_whole {sp : Space} {N C : ℕ} (a : Memref sig .tc sp ⟨2, ![N, C]⟩ .f32) (h : a.IsWhole)
    (X : FVec Ideal ⟨2, ![N, C]⟩ .f32)
    (inb : ∀ i, (![0, 0] : Fin 2 → ℕ) i + (![N, C] : Fin 2 → ℕ) i ≤ (⟨2, ![N, C]⟩ : Shape).size i) :
    a.view.readAt (Elt Ideal) (Rect.unit (s := ⟨2, ![N, C]⟩) ![0, 0] ![N, C] inb).toLoadRect (h.unread X) = X := by
  funext y
  refine (h.readAt_unread (Val := Elt Ideal) X _ y).trans (congrArg X ?_)
  funext i; apply Fin.ext
  match i with
  | ⟨0, _⟩ => show 0 + 1 * (y 0).val = (y 0).val; omega
  | ⟨1, _⟩ => show 0 + 1 * (y 1).val = (y 1).val; omega

/-- The body's decoder is the row of scores on the last layer's row. -/
theorem decoder_eq (w : FVec Ideal S139x417 .bf16) (gh : FVec Ideal S1x417 .f32) (x : FVec Ideal S1x139 .f32)
    (h : Vec Ideal S1x1x139 .f32) (b : Vec Ideal S1x1x417 .f32) (wd : Vec Ideal S139x53 .f32) (bd : Vec Ideal S1x53 .f32) :
    k0_pay1 (k0_pay38 w gh x h b wd) (k0_pay39 bd) = scoresRow (k0_pay36 w gh x h b) wd bd := by
  unfold k0_pay1 k0_pay38 k0_pay39
  rw [shapeCast_self, shapeCast_self]
  rfl

section
variable (c : Dev nD) (arg0 : Memref sig .tc .smem S1 .i32) (harg0 : arg0.IsWhole) (arg1 : Memref sig .tc .vmem S6x1x139 .f32) (harg1 : arg1.IsWhole)
  (arg2 : Memref sig .tc .vmem S53x139 .f32) (harg2 : arg2.IsWhole) (arg3 : Memref sig .tc .vmem S6x139x417 .f32) (harg3 : arg3.IsWhole)
  (arg4 : Memref sig .tc .vmem S6x139x417 .f32) (harg4 : arg4.IsWhole) (arg5 : Memref sig .tc .vmem S6x1x417 .f32) (harg5 : arg5.IsWhole)
  (arg6 : Memref sig .tc .vmem S6x1x417 .f32) (harg6 : arg6.IsWhole) (arg7 : Memref sig .tc .vmem S139x53 .f32) (harg7 : arg7.IsWhole)
  (arg8 : Memref sig .tc .vmem S1x53 .f32) (harg8 : arg8.IsWhole) (arg9 : Memref sig .tc .vmem S1x53 .f32) (harg9 : arg9.IsWhole)
  (arg10 : Memref sig .tc .vmem S6x1x139 .f32) (harg10 : arg10.IsWhole)
  (x0 : Vec Ideal S1 .i32) (x1 : Vec Ideal S6x1x139 .f32) (x2 : Vec Ideal S53x139 .f32) (x3 : Vec Ideal S6x139x417 .f32)
  (x4 : Vec Ideal S6x139x417 .f32) (x5 : Vec Ideal S6x1x417 .f32) (x6 : Vec Ideal S6x1x417 .f32) (x7 : Vec Ideal S139x53 .f32)
  (x8 : Vec Ideal S1x53 .f32)
  (hw : k0_chk1 (arg0.view.readAt (Elt Ideal) (Rect.unit (s := S1) ![0] S1.size inb_S1_S1_0).toLoadRect (harg0.unread x0)
    (Shape.Idx.first (numel1_S1.symm ▸ Nat.one_pos))))

/-- The embedding row that the body loads: the row that the token names. -/
abbrev embRow : FVec Ideal S1x139 .f32 :=
  arg2.view.readAt (Elt Ideal) (Rect.unit (s := S53x139) (k0_off1 _) S1x139.size (k0_off1_inb _ hw)).toLoadRect (harg2.unread x2)

/-- A row stored as block `n` of the second output, read at that block. -/
theorem stored_apply (row : FVec Ideal S1x139 .f32) (n : ℕ) (j : Fin 139) (hn : n < 6)
    (inb : ∀ a, (![n, 0, 0] : Fin 3 → ℕ) a + (![1, 1, 139] : Fin 3 → ℕ) a ≤ S6x1x139.size a)
    (L : List (View.Piece (Elt Ideal) S6x1x139 .f32)) :
    VO0_10.read (Elt Ideal) (VO0_10.writes (Elt Ideal) VO0_10.junk
        ((⟨Rect.unit (s := S6x1x139) ![n, 0, 0] ![1, 1, 139] inb, shapeCast S1x1x139 row shapeCasts_S1x139_S1x1x139⟩ :
          View.Piece (Elt Ideal) S6x1x139 .f32) :: L)) (ix3 ⟨n, hn⟩ 0 j) = row (ix2 0 j) := by
  refine (View.read_writes_cons_unit_of_mem _ _ inb _ L _ (ix3 0 0 j) rfl fun a => ?_).trans (shapeCast_ab_1ab_apply _ _ _ _ _)
  match a with
  | ⟨0, _⟩ => rfl
  | ⟨1, _⟩ => rfl
  | ⟨2, _⟩ => show j.val = 0 + j.val; omega

/-- A row stored as another block is passed over. -/
theorem passed_apply (w : FVec Ideal S1x1x139 .f32) (n o : ℕ) (j : Fin 139) (hn : n < 6) (ho : n < o)
    (inb : ∀ a, (![o, 0, 0] : Fin 3 → ℕ) a + (![1, 1, 139] : Fin 3 → ℕ) a ≤ S6x1x139.size a)
    (L : List (View.Piece (Elt Ideal) S6x1x139 .f32)) :
    VO0_10.read (Elt Ideal) (VO0_10.writes (Elt Ideal) VO0_10.junk
        ((⟨Rect.unit (s := S6x1x139) ![o, 0, 0] ![1, 1, 139] inb, w⟩ : View.Piece (Elt Ideal) S6x1x139 .f32) :: L)) (ix3 ⟨n, hn⟩ 0 j)
      = VO0_10.read (Elt Ideal) (VO0_10.writes (Elt Ideal) VO0_10.junk L) (ix3 ⟨n, hn⟩ 0 j) :=
  View.read_writes_cons_unit_of_not_mem _ _ inb _ L _ rfl 0 (.inl ho)

set_option maxHeartbeats 4000000 in
/-- The second output at layer `n` and a unit is the new hidden row of the layer. -/
theorem hidden_apply (n : ℕ) (hn : n < 6) (j : Fin 139) :
    out0_A_10 (F := Ideal) c arg0 harg0 arg1 harg1 arg2 harg2 arg3 harg3 arg4 harg4 arg5 harg5 arg6 harg6 arg7 harg7 arg8 harg8 arg9 harg9 arg10 harg10
        x0 x1 x2 x3 x4 x5 x6 x7 x8 hw (ix3 ⟨n, hn⟩ 0 j)
      = hidRow (embRow arg0 harg0 arg2 harg2 x0 x2 hw) x1 x3 x4 x5 x6 n hn (ix2 0 j) := by
  unfold out0_A_10 kernelRun0_A
  dsimp only
  sl_unfold_words
  simp (disch := omega) only [readAt_slab]
  match n with
  | 0 =>
    rw [passed_apply _ 0 5 j hn (by omega), passed_apply _ 0 4 j hn (by omega), passed_apply _ 0 3 j hn (by omega),
      passed_apply _ 0 2 j hn (by omega), passed_apply _ 0 1 j hn (by omega)]
    exact stored_apply _ 0 j hn _ _
  | 1 =>
    rw [passed_apply _ 1 5 j hn (by omega), passed_apply _ 1 4 j hn (by omega), passed_apply _ 1 3 j hn (by omega),
      passed_apply _ 1 2 j hn (by omega)]
    exact stored_apply _ 1 j hn _ _
  | 2 =>
    rw [passed_apply _ 2 5 j hn (by omega), passed_apply _ 2 4 j hn (by omega), passed_apply _ 2 3 j hn (by omega)]
    exact stored_apply _ 2 j hn _ _
  | 3 =>
    rw [passed_apply _ 3 5 j hn (by omega), passed_apply _ 3 4 j hn (by omega)]
    exact stored_apply _ 3 j hn _ _
  | 4 =>
    rw [passed_apply _ 4 5 j hn (by omega)]
    exact stored_apply _ 4 j hn _ _
  | 5 => exact stored_apply _ 5 j hn _ _

set_option maxHeartbeats 4000000 in
/-- The first output at a token is the token's score. -/
theorem scores_apply (v : Fin 53) :
    out0_A_9 (F := Ideal) c arg0 harg0 arg1 harg1 arg2 harg2 arg3 harg3 arg4 harg4 arg5 harg5 arg6 harg6 arg7 harg7 arg8 harg8 arg9 harg9 arg10 harg10
        x0 x1 x2 x3 x4 x5 x6 x7 x8 hw (ix2 0 v)
      = scoresRow (hidRow (embRow arg0 harg0 arg2 harg2 x0 x2 hw) x1 x3 x4 x5 x6 5 (by decide)) x7 x8 (ix2 0 v) := by
  unfold out0_A_9 kernelRun0_A
  dsimp only
  sl_unfold_words
  simp (disch := omega) only [readAt_slab, readAt_whole]
  refine (View.read_writes_cons_unit_of_mem _ _ _ _ _ _ (ix2 0 v) rfl fun a => ?_).trans ?_
  · match a with
    | ⟨0, _⟩ => rfl
    | ⟨1, _⟩ => show v.val = 0 + v.val; omega
  · rw [decoder_eq]
    rfl
end

end Cert.KernelIdeal.Hand

end
-- ==== Proof.KernelValue.lean ====
/- The kernel's two result arrays at an index: the network's scores and hidden rows on the argument arrays. -/
module

public import proofs.«01_k».proof.Proof.Gen.KernelIdeal.Value
public import proofs.«01_k».proof.Proof.KernelRun

@[expose] public section

noncomputable section

namespace Cert.KernelIdeal.Hand

open Cert.KernelIdeal Cert.KernelIdeal.Gen Cert.Gru
open Idealize.ShloMosaic Idealize.ShloMosaic.TcCoe Idealize.ShloMosaic.ValueIdx
open Idealize.ShloMosaic.Pipeline (Window)

/-- The one point of the launch. -/
abbrev point : Fin cfg0.N := ⟨0, by decide⟩

variable (m : (ℓ : Loc nD τ sig) → Buf (Elt Ideal) ℓ) (c : Dev nD)

/-! ## The blocks are the whole operands -/

/-- Block 0 is the token. -/
theorem iblk0_eq : iblk m c 0 point = m ((c : Thread nD τ).loc main_arg0) := by
  funext z
  show V m c main_arg0 (((cfg0.win 0).blk point).view.emb z) = _
  rw [V_main_arg0]
  exact congrArg _ (funext fun a => Fin.ext ((cfg0.win 0).rect_emb_val_of_index_zero point a rfl z))

/-- Block 1 is the hidden rows. -/
theorem iblk1_eq : iblk m c 1 point = m ((c : Thread nD τ).loc main_arg1) := by
  funext z
  show V m c main_arg1 (((cfg0.win 1).blk point).view.emb z) = _
  rw [V_main_arg1]
  exact congrArg _ (funext fun a => Fin.ext ((cfg0.win 1).rect_emb_val_of_index_zero point a rfl z))

/-- Block 2 is the embedding table. -/
theorem iblk2_eq : iblk m c 2 point = m ((c : Thread nD τ).loc main_arg2) := by
  funext z
  show V m c main_arg2 (((cfg0.win 2).blk point).view.emb z) = _
  rw [V_main_arg2]
  exact congrArg _ (funext fun a => Fin.ext ((cfg0.win 2).rect_emb_val_of_index_zero point a rfl z))

/-- Block 3 is the input weights, each layer transposed. -/
theorem iblk3_eq : iblk m c 3 point
    = transpose S6x139x417 [0, 2, 1] (m ((c : Thread nD τ).loc main_arg3)) transposes_S6x417x139_S6x139x417_0_2_1 := by
  funext z
  show V m c main_v0 (((cfg0.win 3).blk point).view.emb z) = _
  entry_read
  exact congrArg _ (funext fun a => Fin.ext ((cfg0.win 3).rect_emb_val_of_index_zero point a rfl z))

/-- Block 4 is the hidden weights, each layer transposed. -/
theorem iblk4_eq : iblk m c 4 point
    = transpose S6x139x417 [0, 2, 1] (m ((c : Thread nD τ).loc main_arg4)) transposes_S6x417x139_S6x139x417_0_2_1 := by
  funext z
  show V m c main_v1 (((cfg0.win 4).blk point).view.emb z) = _
  entry_read
  exact congrArg _ (funext fun a => Fin.ext ((cfg0.win 4).rect_emb_val_of_index_zero point a rfl z))

/-- Block 5 is the input biases, one row a layer. -/
theorem iblk5_eq : iblk m c 5 point = shapeCast S6x1x417 (m ((c : Thread nD τ).loc main_arg5)) shapeCasts_S6x417_S6x1x417 := by
  funext z
  show V m c main_v2 (((cfg0.win 5).blk point).view.emb z) = _
  entry_read
  exact congrArg _ (funext fun a => Fin.ext ((cfg0.win 5).rect_emb_val_of_index_zero point a rfl z))

/-- Block 6 is the hidden biases, one row a layer. -/
theorem iblk6_eq : iblk m c 6 point = shapeCast S6x1x417 (m ((c : Thread nD τ).loc main_arg6)) shapeCasts_S6x417_S6x1x417 := by
  funext z
  show V m c main_v3 (((cfg0.win 6).blk point).view.emb z) = _
  entry_read
  exact congrArg _ (funext fun a => Fin.ext ((cfg0.win 6).rect_emb_val_of_index_zero point a rfl z))

/-- Block 7 is the decoder weights transposed. -/
theorem iblk7_eq : iblk m c 7 point
    = transpose S139x53 [1, 0] (m ((c : Thread nD τ).loc main_arg7)) transposes_S53x139_S139x53_1_0 := by
  funext z
  show V m c main_v4 (((cfg0.win 7).blk point).view.emb z) = _
  entry_read
  exact congrArg _ (funext fun a => Fin.ext ((cfg0.win 7).rect_emb_val_of_index_zero point a rfl z))

/-- Block 8 is the decoder bias as a row. -/
theorem iblk8_eq : iblk m c 8 point = shapeCast S1x53 (m ((c : Thread nD τ).loc main_arg8)) shapeCasts_S53_S1x53 := by
  funext z
  show V m c main_v5 (((cfg0.win 8).blk point).view.emb z) = _
  entry_read
  exact congrArg _ (funext fun a => Fin.ext ((cfg0.win 8).rect_emb_val_of_index_zero point a rfl z))

/-- The word that the body loads is the token. -/
theorem readAt_word (a : Memref sig .tc .smem S1 .i32) (h : a.IsWhole) (X : Vec Ideal S1 .i32) (y : S1.Idx) :
    a.view.readAt (Elt Ideal) (Rect.unit (s := S1) ![0] S1.size inb_S1_S1_0).toLoadRect (h.unread X) y = X (ix1 0) := by
  refine (h.readAt_unread (Val := Elt Ideal) X _ _).trans (congrArg X ?_)
  funext i
  match i with
  | ⟨0, _⟩ => exact Subsingleton.elim (α := Fin 1) _ _

/-- A load of the table's row at a word that is the number `t` is the row `t`. -/
theorem readAt_row (a : Memref sig .tc .vmem S53x139 .f32) (h : a.IsWhole) (X : Vec Ideal S53x139 .f32) (w : BitVec 32) (hw : k0_chk1 w)
    (t : Fin 53) (ht : w.toNat = t.val) (k : Fin 139) :
    a.view.readAt (Elt Ideal) (Rect.unit (s := S53x139) (k0_off1 w) S1x139.size (k0_off1_inb w hw)).toLoadRect (h.unread X) (ix2 0 k)
      = X (ix2 t k) := by
  refine (h.readAt_unread (Val := Elt Ideal) X _ _).trans (congrArg X ?_)
  funext i; apply Fin.ext
  match i with
  | ⟨0, _⟩ => exact ht
  | ⟨1, _⟩ => show 0 + 1 * k.val = k.val; omega

/-- The row that the body loads is the embedding of the token. -/
theorem embRow_apply (arg0 : Memref sig .tc .smem S1 .i32) (harg0 : arg0.IsWhole) (arg2 : Memref sig .tc .vmem S53x139 .f32) (harg2 : arg2.IsWhole)
    (x0 : Vec Ideal S1 .i32) (x2 : Vec Ideal S53x139 .f32)
    (hw : k0_chk1 (arg0.view.readAt (Elt Ideal) (Rect.unit (s := S1) ![0] S1.size inb_S1_S1_0).toLoadRect (harg0.unread x0)
      (Shape.Idx.first (numel1_S1.symm ▸ Nat.one_pos))))
    (t : Fin 53) (ht : BitVec.toNat (w := 32) (x0 (ix1 0)) = t.val) (k : Fin 139) :
    embRow arg0 harg0 arg2 harg2 x0 x2 hw (ix2 0 k) = x2 (ix2 t k) :=
  readAt_row arg2 harg2 x2 _ hw t ((congrArg (BitVec.toNat (w := 32)) (readAt_word arg0 harg0 x0 _)).trans ht) k

/-- The network's data read off the blocks are those of the argument arrays. -/
theorem data_eq (t : Fin 53) (ht : BitVec.toNat (w := 32) (m ((c : Thread nD τ).loc main_arg0) (ix1 0)) = t.val) (hH : Hyps m) :
    dataOf (embRow (ms0_0 point) (hs0_0 point) (ms0_2 point) (hs0_2 point) (iblk m c 0 point) (iblk m c 2 point) (Hyps.c0 hH c point))
        (iblk m c 1 point) (iblk m c 3 point) (iblk m c 4 point) (iblk m c 5 point) (iblk m c 6 point) (iblk m c 7 point) (iblk m c 8 point)
      = ofArrays t (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) := by
  have bias (b : FVec Ideal S6x417 .f32) (l : Fin 6) (j : Fin 417) :
      shapeCast S6x1x417 b shapeCasts_S6x417_S6x1x417 (ix3 l 0 j) = b (ix2 l j) := by
    refine shapeCast_apply _ _ _ _ ?_
    rw [Shape.rowMajor_val_two, Shape.rowMajor_val_three]
    show l.val * 417 + j.val = (l.val * 1 + 0) * 417 + j.val
    omega
  apply Data.ext
  · funext k
    exact (embRow_apply (ms0_0 point) (hs0_0 point) (ms0_2 point) (hs0_2 point) (iblk m c 0 point) (iblk m c 2 point) (Hyps.c0 hH c point) t
      ((congrArg (BitVec.toNat (w := 32)) (congrFun (iblk0_eq m c) (ix1 0))).trans ht) k).trans (congrFun (iblk2_eq m c) (ix2 t k))
  · funext l k
    show iblk m c 1 point (ix3 l 0 k) = _
    rw [iblk1_eq]; rfl
  · funext l k j
    show iblk m c 3 point (ix3 l k j) = _
    rw [iblk3_eq]; exact transpose_ix3_021_apply ..
  · funext l k j
    show iblk m c 4 point (ix3 l k j) = _
    rw [iblk4_eq]; exact transpose_ix3_021_apply ..
  · funext l j
    show iblk m c 5 point (ix3 l 0 j) = _
    rw [iblk5_eq]; exact bias _ l j
  · funext l j
    show iblk m c 6 point (ix3 l 0 j) = _
    rw [iblk6_eq]; exact bias _ l j
  · funext k v
    show iblk m c 7 point (ix2 k v) = _
    rw [iblk7_eq]; exact transpose_ix2_apply ..
  · funext v
    show iblk m c 8 point (ix2 0 v) = _
    rw [iblk8_eq]; exact shapeCast_a_1a_apply ..

/-! ## The results -/

/-- The first result at a token: the token's score. -/
theorem scores_final (hH : Hyps m) (t : Fin 53) (ht : BitVec.toNat (w := 32) (m ((c : Thread nD τ).loc main_arg0) (ix1 0)) = t.val) (v : Fin 53) :
    (dats m hH 0 c).arrAt 9 cfg0.N (ix2 0 v)
      = scores (ofArrays t (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8))) v := by
  have b := congrFun (Cert.KernelIdeal.Value.blocks9 m hH c point rfl) (ix2 0 v)
  rw [Cert.KernelIdeal.Value.flushed9_A] at b
  have b' : (dats m hH 0 c).arrAt 9 cfg0.N (((cfg0.win 9).blk point).view.emb (ix2 0 v)) = _ := b
  rw [show ((cfg0.win 9).blk point).view.emb (ix2 0 v) = ix2 0 v from
    funext fun a => Fin.ext ((cfg0.win 9).rect_emb_val_of_index_zero point a rfl _)] at b'
  refine b'.trans ((scores_apply ..).trans ?_)
  rw [decoded_apply, data_eq m c t ht hH]

/-- The second result at layer `n` and a unit: the layer's new hidden row at the unit. -/
theorem hidden_final (hH : Hyps m) (t : Fin 53) (ht : BitVec.toNat (w := 32) (m ((c : Thread nD τ).loc main_arg0) (ix1 0)) = t.val)
    (n : ℕ) (hn : n < 6) (j : Fin 139) :
    (dats m hH 0 c).arrAt 10 cfg0.N (ix3 ⟨n, hn⟩ 0 j)
      = hid (ofArrays t (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8))) n hn j := by
  have b := congrFun (Cert.KernelIdeal.Value.blocks10 m hH c point rfl) (ix3 ⟨n, hn⟩ 0 j)
  rw [Cert.KernelIdeal.Value.flushed10_A] at b
  have b' : (dats m hH 0 c).arrAt 10 cfg0.N (((cfg0.win 10).blk point).view.emb (ix3 ⟨n, hn⟩ 0 j)) = _ := b
  rw [show ((cfg0.win 10).blk point).view.emb (ix3 ⟨n, hn⟩ 0 j) = ix3 ⟨n, hn⟩ 0 j from
    funext fun a => Fin.ext ((cfg0.win 10).rect_emb_val_of_index_zero point a rfl _)] at b'
  refine b'.trans ((hidden_apply ..).trans ?_)
  rw [hidRow_apply _ _ _ _ _ _ (iblk m c 7 point) (iblk m c 8 point), data_eq m c t ht hH]

end Cert.KernelIdeal.Hand

end
-- ==== Proof.RefVec.lean ====
/- The reference's operations on vectors, each read at an index as the mathematics of Gru. -/
module

public import proofs.«01_k».proof.Proof.Gen.ReferenceIdeal
public import proofs.«01_k».proof.Proof.Gru
public import Idealize.ShloMosaic.Lib.IdealHost
public import Idealize.ShloMosaic.Lib.ValueLayout

@[expose] public section

noncomputable section

namespace Cert.ReferenceIdeal.Hand

open Cert.ReferenceIdeal Cert.ReferenceIdeal.Gen Cert.Gru
open Idealize.ShloMosaic Idealize.ShloMosaic.ValueIdx
open scoped BigOperators

/-! ## The operations -/

/-- The vector of ones. -/
def ones : FVec Ideal S139 .f32 := broadcastInDim S139 ![] bcast_S_S139 (constant S_ .f32 0x3F800000#32)

/-- The logistic function of a vector, written with the exponential and the quotient. -/
def sigmoid (x : FVec Ideal S139 .f32) : FVec Ideal S139 .f32 := Host.divf ones (addf ones (Host.exp (Host.negf x)))

/-- Block `o` of the hidden rows. -/
def hiddenOf (o : ℕ) (hs : S6x1x139.Slices ![o, 0, 0] S1x1x139) (h : FVec Ideal S6x1x139 .f32) : FVec Ideal S139 .f32 :=
  shapeCast _ (extractStridedSlice S1x1x139 ![o, 0, 0] h hs) shapeCasts_S1x1x139_S139

/-- Block `o` of the weights applied to a vector, with block `o` of the biases added. -/
def gatesOf (o : ℕ) (hw : S6x417x139.Slices ![o, 0, 0] S1x417x139) (hb : S6x417.Slices ![o, 0] S1x417)
    (w : FVec Ideal S6x417x139 .f32) (b : FVec Ideal S6x417 .f32) (x : FVec Ideal S139 .f32) : FVec Ideal S417 .f32 :=
  addf (Host.dotGeneral dot_S417x139_S139_S417_1_0_0_n_n_n none
      (shapeCast _ (extractStridedSlice S1x417x139 ![o, 0, 0] w hw) shapeCasts_S1x417x139_S417x139) x)
    (shapeCast _ (extractStridedSlice S1x417 ![o, 0] b hb) shapeCasts_S1x417_S417)

/-- The new hidden vector from two vectors of pre-activations and the old hidden vector. -/
def cellOf (gi gh : FVec Ideal S417 .f32) (h : FVec Ideal S139 .f32) : FVec Ideal S139 .f32 :=
  addf
    (mulf
      (subf ones (sigmoid (addf (extractStridedSlice S139 ![139] gi slices_S417_S139_139) (extractStridedSlice S139 ![139] gh slices_S417_S139_139))))
      (Host.tanh (addf (extractStridedSlice S139 ![278] gi slices_S417_S139_278)
        (mulf (sigmoid (addf (extractStridedSlice S139 ![0] gi slices_S417_S139_0) (extractStridedSlice S139 ![0] gh slices_S417_S139_0)))
          (extractStridedSlice S139 ![278] gh slices_S417_S139_278)))))
    (mulf (sigmoid (addf (extractStridedSlice S139 ![139] gi slices_S417_S139_139) (extractStridedSlice S139 ![139] gh slices_S417_S139_139))) h)

/-- The decoder on a vector. -/
def decoderOf (x : FVec Ideal S139 .f32) (w : FVec Ideal S53x139 .f32) (b : FVec Ideal S53 .f32) : FVec Ideal S53 .f32 :=
  addf (Host.dotGeneral dot_S139_S139x53_S53_0_0_n_1_n_n none x (transpose S139x53 [1, 0] w transposes_S53x139_S139x53_1_0)) b

/-! ## Read at an index -/

/-- The vector of ones is 1 at each unit. -/
theorem ones_apply (j : S139.Idx) : ones j = 1 :=
  (broadcastInDim_scalar_apply _ _ _).trans Ideal.ofBits_one_f32

/-- The written logistic function at a unit. -/
theorem sigmoid_apply (x : FVec Ideal S139 .f32) (j : S139.Idx) : sigmoid x j = Ideal.logistic (x j) := by
  show Ideal.div (ones j) (ones j + Ideal.exp (-(x j))) = _
  rw [ones_apply]
  rfl

/-- A weight matrix applied to a vector, at a row. -/
theorem dot_gates_apply (w : FVec Ideal S417x139 .f32) (x : FVec Ideal S139 .f32) (j : Fin 417) :
    Host.dotGeneral dot_S417x139_S139_S417_1_0_0_n_n_n none w x (ix1 j) = ∑ k : Fin 139, x (ix1 k) * w (ix2 j k) := by
  show FloatOps.matmul _ none w x (fun _ => 0) (ix1 j) = _
  rw [Ideal.matmul_apply, zero_add, ← Equiv.sum_comp (contrEquiv1 dot_S417x139_S139_S417_1_0_0_n_n_n 139 rfl rfl).symm]
  refine Finset.sum_congr rfl fun k _ => ?_
  have hk := contrEquiv1_symm_val dot_S417x139_S139_S417_1_0_0_n_n_n 139 rfl rfl k
  rw [mul_comm]
  refine congrArg₂ (· * ·) (congrArg x ?_) (congrArg w ?_)
  · funext a; apply Fin.ext
    match a with
    | ⟨0, _⟩ => exact hk
  · funext a; apply Fin.ext
    match a with
    | ⟨0, _⟩ => rfl
    | ⟨1, _⟩ => exact hk

/-- A vector applied to the decoder's matrix, at a column. -/
theorem dot_decoder_apply (x : FVec Ideal S139 .f32) (w : FVec Ideal S139x53 .f32) (v : Fin 53) :
    Host.dotGeneral dot_S139_S139x53_S53_0_0_n_1_n_n none x w (ix1 v) = ∑ k : Fin 139, x (ix1 k) * w (ix2 k v) := by
  show FloatOps.matmul _ none x w (fun _ => 0) (ix1 v) = _
  rw [Ideal.matmul_apply, zero_add, ← Equiv.sum_comp (contrEquiv1 dot_S139_S139x53_S53_0_0_n_1_n_n 139 rfl rfl).symm]
  refine Finset.sum_congr rfl fun k _ => ?_
  have hk := contrEquiv1_symm_val dot_S139_S139x53_S53_0_0_n_1_n_n 139 rfl rfl k
  refine congrArg₂ (· * ·) (congrArg x ?_) (congrArg w ?_)
  · funext a; apply Fin.ext
    match a with
    | ⟨0, _⟩ => exact hk
  · funext a; apply Fin.ext
    match a with
    | ⟨0, _⟩ => exact hk
    | ⟨1, _⟩ => rfl

/-- Block `o` of the hidden rows, at a unit. -/
theorem hiddenOf_apply (o : ℕ) (ho : o < 6) (hs : S6x1x139.Slices ![o, 0, 0] S1x1x139) (h : FVec Ideal S6x1x139 .f32) (k : Fin 139) :
    hiddenOf o hs h (ix1 k) = h (ix3 ⟨o, ho⟩ 0 k) := by
  refine (shapeCast_apply _ _ _ (ix3 0 0 k) ?_).trans (extractStridedSlice_apply _ _ hs _ _ fun a => ?_)
  · rw [Shape.rowMajor_val_three, Shape.rowMajor_val_one]
    show (0 * 1 + 0) * 139 + k.val = k.val
    omega
  · match a with
    | ⟨0, _⟩ => rfl
    | ⟨1, _⟩ => rfl
    | ⟨2, _⟩ => show k.val = 0 + k.val; omega

/-- The pre-activations of layer `o`, at a unit. -/
theorem gatesOf_apply (o : ℕ) (ho : o < 6) (hw : S6x417x139.Slices ![o, 0, 0] S1x417x139) (hb : S6x417.Slices ![o, 0] S1x417)
    (w : FVec Ideal S6x417x139 .f32) (b : FVec Ideal S6x417 .f32) (x : FVec Ideal S139 .f32) (j : Fin 417) :
    gatesOf o hw hb w b x (ix1 j)
      = affine (fun k j => w (ix3 ⟨o, ho⟩ j k)) (fun j => b (ix2 ⟨o, ho⟩ j)) (fun k => x (ix1 k)) j := by
  unfold gatesOf affine
  rw [addf_apply, dot_gates_apply]
  refine congrArg₂ (· + ·) (Finset.sum_congr rfl fun k _ => congrArg (x (ix1 k) * ·) ?_) ?_
  · refine (shapeCast_1ab_ab_apply _ _ _ _).trans (extractStridedSlice_apply _ _ hw _ _ fun a => ?_)
    match a with
    | ⟨0, _⟩ => rfl
    | ⟨1, _⟩ => show j.val = 0 + j.val; omega
    | ⟨2, _⟩ => show k.val = 0 + k.val; omega
  · refine (shapeCast_1a_a_apply _ _ _).trans (extractStridedSlice_apply _ _ hb _ _ fun a => ?_)
    match a with
    | ⟨0, _⟩ => rfl
    | ⟨1, _⟩ => show j.val = 0 + j.val; omega

/-- The new hidden vector at a unit. -/
theorem cellOf_apply (gi gh : FVec Ideal S417 .f32) (h : FVec Ideal S139 .f32) (j : Fin 139) :
    cellOf gi gh h (ix1 j) = cell (fun j => gi (ix1 j)) (fun j => gh (ix1 j)) (fun j => h (ix1 j)) j := by
  have third (o : ℕ) (hs : S417.Slices ![o] S139) (ho : o + j.val < 417) (g : FVec Ideal S417 .f32) :
      extractStridedSlice S139 ![o] g hs (ix1 j) = g (ix1 ⟨o + j.val, ho⟩) := by
    refine extractStridedSlice_apply _ _ hs _ _ fun a => ?_
    match a with
    | ⟨0, _⟩ => rfl
  show (ones (ix1 j) - sigmoid _ (ix1 j)) * Ideal.tanh (extractStridedSlice S139 ![278] gi _ (ix1 j)
      + sigmoid _ (ix1 j) * extractStridedSlice S139 ![278] gh _ (ix1 j)) + sigmoid _ (ix1 j) * h (ix1 j) = _
  rw [ones_apply, sigmoid_apply, sigmoid_apply, addf_apply, addf_apply]
  simp only [third 0 _ (by omega), third 139 _ (by omega), third 278 _ (by omega), Nat.zero_add]
  rfl

/-- The decoder's vector at a token. -/
theorem decoderOf_apply (x : FVec Ideal S139 .f32) (w : FVec Ideal S53x139 .f32) (b : FVec Ideal S53 .f32) (v : Fin 53) :
    decoderOf x w b (ix1 v) = affine (fun k v => w (ix2 v k)) (fun v => b (ix1 v)) (fun k => x (ix1 k)) v := by
  unfold decoderOf affine
  rw [addf_apply, dot_decoder_apply]
  exact congrArg (· + b (ix1 v)) (Finset.sum_congr rfl fun k _ => congrArg (x (ix1 k) * ·) (transpose_ix2_apply ..))

/-- Layer `o` of the reference is layer `o` of the network. -/
theorem layer_apply (o : ℕ) (ho : o < 6) (hs : S6x1x139.Slices ![o, 0, 0] S1x1x139) (hw : S6x417x139.Slices ![o, 0, 0] S1x417x139)
    (hb : S6x417.Slices ![o, 0] S1x417) (t : Fin 53) (hidden : FVec Ideal S6x1x139 .f32) (emb : FVec Ideal S53x139 .f32)
    (wih whh : FVec Ideal S6x417x139 .f32) (bih bhh : FVec Ideal S6x417 .f32) (wdec : FVec Ideal S53x139 .f32) (bdec : FVec Ideal S53 .f32)
    (x : FVec Ideal S139 .f32) (y : Fin 139 → EReal) (hx : ∀ k, x (ix1 k) = y k) (j : Fin 139) :
    cellOf (gatesOf o hw hb wih bih x) (gatesOf o hw hb whh bhh (hiddenOf o hs hidden)) (hiddenOf o hs hidden) (ix1 j)
      = layer (ofArrays t hidden emb wih whh bih bhh wdec bdec) ⟨o, ho⟩ y j := by
  rw [cellOf_apply]
  simp only [gatesOf_apply o ho, hiddenOf_apply o ho, hx]
  rfl

end Cert.ReferenceIdeal.Hand

end
-- ==== Proof.RefTake.lean ====
/- The reference's embedding lookup: at a token inside the table it is the token's row. -/
module

public import proofs.«01_k».proof.Proof.Gen.ReferenceIdeal
public import Idealize.ShloMosaic.PureOps.Ideal.Laws
public import Idealize.ShloMosaic.Lib.ReduceAll
public import Idealize.ShloMosaic.Lib.ValueLayout

@[expose] public section

noncomputable section

namespace Cert.ReferenceIdeal.Hand

open Cert.ReferenceIdeal Cert.ReferenceIdeal.Gen
open Idealize.ShloMosaic Idealize.ShloMosaic.ValueIdx

/-- The row number looked up: the token, counted from the table's end where it is negative. -/
def rowNumber (token : IVec S1 32) : IVec S1x1 32 :=
  broadcastInDim S1x1 ![0] bcast_S1_S1x1_0 (select (cmpi .slt token (broadcastInDim S1 ![] bcast_S_S1 (constantI S_ 32 0#32)))
    (addi token (broadcastInDim S1 ![] bcast_S_S1 (constantI S_ 32 53#32))) token)

/-- Whether the row number lies in the table. -/
def rowInside (r : IVec S1x1 32) : IVec S1 1 :=
  Host.reduce IntOp.andi (andi (cmpi .sge r (broadcastInDim S1x1 ![] bcast_S_S1x1 (constantI S_ 32 0#32)))
    (cmpi .sle r (broadcastInDim S1x1 ![1] bcast_S1_S1x1_1 (constantI S1 32 52#32)))) (constantI S_ 1 1#1) reducesTo_S1x1_S1_d1 h_S_

/-- The row of the table at the row number, or not-a-number everywhere where the number lies outside. -/
def rowTaken (token : IVec S1 32) (emb : FVec Ideal S53x139 .f32) : FVec Ideal S139 .f32 :=
  shapeCast _ (select (broadcastInDim S1x139 ![0] bcast_S1_S1x139_0 (rowInside (rowNumber token)))
    (Host.gather gather_S53x139_S1x1_S1x139_1_0_n_n_0_1_1139 emb (rowNumber token))
    (broadcastInDim S1x139 ![] bcast_S_S1x139 (constant S_ .f32 0x7FC00000#32))) shapeCasts_S1x139_S139

/-- A token inside the table is its own row number. -/
theorem rowNumber_apply (token : IVec S1 32) (ht : (token (ix1 0)).toNat < 53) (i : S1x1.Idx) : rowNumber token i = token (ix1 0) := by
  have low (w : BitVec 32) (hw : w.toNat < 53) : IntOp.cmpi .slt w 0#32 = 0#1 := by
    show BitVec.ofBool (w.slt 0#32) = 0#1
    rw [show w.slt 0#32 = false by
      simp only [BitVec.slt, decide_eq_false_iff_not, BitVec.toInt, BitVec.toNat_ofNat]
      omega]
    rfl
  have entry (y : S1.Idx) : select (cmpi .slt token (broadcastInDim S1 ![] bcast_S_S1 (constantI S_ 32 0#32)))
      (addi token (broadcastInDim S1 ![] bcast_S_S1 (constantI S_ 32 53#32))) token y = token (ix1 0) := by
    rw [show y = ix1 0 from funext fun a => by
      match a with
      | ⟨0, _⟩ => exact Subsingleton.elim (α := Fin 1) _ _]
    rw [select_apply, show cmpi .slt token (broadcastInDim S1 ![] bcast_S_S1 (constantI S_ 32 0#32)) (ix1 0) = 0#1 from low _ ht, select_zero]
  exact entry _

/-- A token inside the table has its row number inside. -/
theorem rowInside_apply (r : IVec S1x1 32) (hr : ∀ i, (r i).toNat < 53) (j : S1.Idx) : rowInside r j = 1#1 := by
  refine Host.reduce_andi_one _ _ _ _ _ rfl fun i => ?_
  show IntOp.andi (BitVec.ofBool ((0#32).sle (r i))) (BitVec.ofBool ((r i).sle 52#32)) = 1#1
  have h := hr i
  rw [show (0#32).sle (r i) = true by
      simp only [BitVec.sle, decide_eq_true_eq, BitVec.toInt, BitVec.toNat_ofNat]
      omega,
    show (r i).sle 52#32 = true by
      simp only [BitVec.sle, decide_eq_true_eq, BitVec.toInt, BitVec.toNat_ofNat]
      omega]
  rfl

/-- The gather at a row number inside the table reads that row. -/
theorem gather_apply (emb : FVec Ideal S53x139 .f32) (r : IVec S1x1 32) (t : Fin 53) (hr : ∀ i, (r i).toNat = t.val) (k : Fin 139) :
    Host.gather gather_S53x139_S1x1_S1x139_1_0_n_n_0_1_1139 emb r (ix2 0 k) = emb (ix2 t k) := by
  have toInt (i : S1x1.Idx) : (r i).toInt.toNat = t.val := by
    have h := hr i
    have h2 := t.isLt
    simp only [BitVec.toInt]
    omega
  show emb (GatherDims.operandIdx _ _ _) = _
  refine congrArg emb (funext fun a => Fin.ext ?_)
  show GatherDims.start _ (ix2 0 k) r a + GatherDims.batchCoord _ (ix2 0 k) a + GatherDims.offCoord _ (ix2 0 k) a = _
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    show min ((r _).toInt.toNat) 52 + 0 + 0 = t.val
    rw [toInt]
    have h2 := t.isLt
    omega
  | ⟨1, _⟩ =>
    rw [GatherDims.batchCoord_eq_zero _ _ _ List.not_mem_nil]
    show 0 + 0 + k.val = k.val
    omega

/-- The looked-up row at a unit. -/
theorem rowTaken_apply (token : IVec S1 32) (emb : FVec Ideal S53x139 .f32) (t : Fin 53) (ht : (token (ix1 0)).toNat = t.val) (k : Fin 139) :
    rowTaken token emb (ix1 k) = emb (ix2 t k) := by
  have inside (i : S1x1.Idx) : (rowNumber token i).toNat = t.val := by rw [rowNumber_apply token (ht ▸ t.isLt), ht]
  refine (shapeCast_1a_a_apply _ _ _).trans ?_
  rw [select_apply, show broadcastInDim S1x139 ![0] bcast_S1_S1x139_0 (rowInside (rowNumber token)) (ix2 0 k) = 1#1 from
    rowInside_apply _ (fun i => inside i ▸ t.isLt) _, select_one]
  exact gather_apply emb _ t inside k

end Cert.ReferenceIdeal.Hand

end
-- ==== Proof.RefValue.lean ====
/- The reference's two result arrays at an index: the network's scores and hidden rows on the argument arrays. -/
module

public import proofs.«01_k».proof.Proof.Gen.ReferenceIdeal.Run
public import proofs.«01_k».proof.Proof.RefVec
public import proofs.«01_k».proof.Proof.RefTake

@[expose] public section

noncomputable section

namespace Cert.ReferenceIdeal.Hand

open Cert.ReferenceIdeal Cert.ReferenceIdeal.Gen Cert.ReferenceIdeal.Value Cert.Gru
open Idealize.ShloMosaic Idealize.ShloMosaic.TcCoe Idealize.ShloMosaic.ValueIdx Idealize.ShloMosaic.StableHlo

section
variable (V : Valuation τ sig (Elt Ideal)) (t : Fin 53)

/-- The network's data that a token and the argument arrays stand for. -/
abbrev dataAt : Data := ofArrays t (V (Proc.devRef .tc main_arg1)) (V (Proc.devRef .tc main_arg2)) (V (Proc.devRef .tc main_arg3))
  (V (Proc.devRef .tc main_arg4)) (V (Proc.devRef .tc main_arg5)) (V (Proc.devRef .tc main_arg6)) (V (Proc.devRef .tc main_arg7))
  (V (Proc.devRef .tc main_arg8))

variable (ht : BitVec.toNat (w := 32) (V (Proc.devRef .tc main_arg0) (ix1 0)) = t.val)
include ht

/-! ## The six layers -/

/-- The first layer's new hidden vector. -/
theorem res_main_v43_apply (j : Fin 139) : res_main_v43 V (ix1 j) = hid (dataAt V t) 0 (by decide) j :=
  layer_apply 0 (by decide) slices_S6x1x139_S1x1x139_0_0_0 slices_S6x417x139_S1x417x139_0_0_0 slices_S6x417_S1x417_0_0
    t _ _ _ _ _ _ _ _ _ _ (rowTaken_apply _ _ t ht) j

/-- The second layer's new hidden vector. -/
theorem res_main_v85_apply (j : Fin 139) : res_main_v85 V (ix1 j) = hid (dataAt V t) 1 (by decide) j :=
  layer_apply 1 (by decide) slices_S6x1x139_S1x1x139_1_0_0 slices_S6x417x139_S1x417x139_1_0_0 slices_S6x417_S1x417_1_0
    t _ _ _ _ _ _ _ _ _ _ (res_main_v43_apply V t ht) j

/-- The third layer's new hidden vector. -/
theorem res_main_v127_apply (j : Fin 139) : res_main_v127 V (ix1 j) = hid (dataAt V t) 2 (by decide) j :=
  layer_apply 2 (by decide) slices_S6x1x139_S1x1x139_2_0_0 slices_S6x417x139_S1x417x139_2_0_0 slices_S6x417_S1x417_2_0
    t _ _ _ _ _ _ _ _ _ _ (res_main_v85_apply V t ht) j

/-- The fourth layer's new hidden vector. -/
theorem res_main_v169_apply (j : Fin 139) : res_main_v169 V (ix1 j) = hid (dataAt V t) 3 (by decide) j :=
  layer_apply 3 (by decide) slices_S6x1x139_S1x1x139_3_0_0 slices_S6x417x139_S1x417x139_3_0_0 slices_S6x417_S1x417_3_0
    t _ _ _ _ _ _ _ _ _ _ (res_main_v127_apply V t ht) j

/-- The fifth layer's new hidden vector. -/
theorem res_main_v211_apply (j : Fin 139) : res_main_v211 V (ix1 j) = hid (dataAt V t) 4 (by decide) j :=
  layer_apply 4 (by decide) slices_S6x1x139_S1x1x139_4_0_0 slices_S6x417x139_S1x417x139_4_0_0 slices_S6x417_S1x417_4_0
    t _ _ _ _ _ _ _ _ _ _ (res_main_v169_apply V t ht) j

/-- The sixth layer's new hidden vector. -/
theorem res_main_v253_apply (j : Fin 139) : res_main_v253 V (ix1 j) = hid (dataAt V t) 5 (by decide) j :=
  layer_apply 5 (by decide) slices_S6x1x139_S1x1x139_5_0_0 slices_S6x417x139_S1x417x139_5_0_0 slices_S6x417_S1x417_5_0
    t _ _ _ _ _ _ _ _ _ _ (res_main_v211_apply V t ht) j

/-! ## The results -/

/-- The first result at a token: the token's score. -/
theorem scores_result (v : Fin 53) :
    shapeCast S1x53 (decoderOf (res_main_v253 V) (V (Proc.devRef .tc main_arg7)) (V (Proc.devRef .tc main_arg8))) shapeCasts_S53_S1x53 (ix2 0 v)
      = scores (dataAt V t) v := by
  refine (shapeCast_a_1a_apply ..).trans ((decoderOf_apply ..).trans ?_)
  simp only [res_main_v253_apply V t ht]
  rfl

/-- The second result at layer `n` and a unit: the layer's new hidden row at the unit. -/
theorem hidden_result (n : ℕ) (hn : n < 6) (j : Fin 139) :
    broadcastInDim S6x1x139 ![0, 2] bcast_S6x139_S6x1x139_0_2 (concatenate S6x139 0
        [⟨S1x139, broadcastInDim S1x139 ![1] bcast_S139_S1x139_1 (res_main_v43 V)⟩, ⟨S1x139, broadcastInDim S1x139 ![1] bcast_S139_S1x139_1 (res_main_v85 V)⟩,
          ⟨S1x139, broadcastInDim S1x139 ![1] bcast_S139_S1x139_1 (res_main_v127 V)⟩, ⟨S1x139, broadcastInDim S1x139 ![1] bcast_S139_S1x139_1 (res_main_v169 V)⟩,
          ⟨S1x139, broadcastInDim S1x139 ![1] bcast_S139_S1x139_1 (res_main_v211 V)⟩, ⟨S1x139, broadcastInDim S1x139 ![1] bcast_S139_S1x139_1 (res_main_v253 V)⟩]
        concatenates_S1x139_S1x139_S1x139_S1x139_S1x139_S1x139_S6x139_d0) (ix3 ⟨n, hn⟩ 0 j)
      = hid (dataAt V t) n hn j := by
  have read (n : ℕ) (hn : n < 6) (xs : List ((s : Shape) × (s.Idx → EReal))) (h : Shape.Concatenates (xs.map (·.1)) S6x139 0) (hk : n < xs.length)
      (row : FVec Ideal S139 .f32) (hx : xs[n] = ⟨S1x139, broadcastInDim S1x139 ![1] bcast_S139_S1x139_1 row⟩)
      (hp : (((xs.take n).map (·.1)).map fun s => if h : s.rank = S6x139.rank then s.size ((0 : Fin 2).cast h.symm) else 0).sum = n) :
      broadcastInDim S6x1x139 ![0, 2] bcast_S6x139_S6x1x139_0_2 (concatenate S6x139 0 xs h) (ix3 ⟨n, hn⟩ 0 j) = row (ix1 j) := by
    refine (concatenate_apply_piece (t := S6x139) 0 xs h _ n hk S1x139 _ hx rfl n hp (ix2 0 j) (fun b hb => ?_) ?_).trans ?_
    · match b with
      | ⟨0, _⟩ => exact absurd rfl hb
      | ⟨1, _⟩ => rfl
    · rfl
    · refine congrArg row (funext fun a => ?_)
      match a with
      | ⟨0, _⟩ => rfl
  match n with
  | 0 => exact (read _ _ _ _ (show _ < 6 by decide) _ rfl rfl).trans (res_main_v43_apply V t ht j)
  | 1 => exact (read _ _ _ _ (show _ < 6 by decide) _ rfl rfl).trans (res_main_v85_apply V t ht j)
  | 2 => exact (read _ _ _ _ (show _ < 6 by decide) _ rfl rfl).trans (res_main_v127_apply V t ht j)
  | 3 => exact (read _ _ _ _ (show _ < 6 by decide) _ rfl rfl).trans (res_main_v169_apply V t ht j)
  | 4 => exact (read _ _ _ _ (show _ < 6 by decide) _ rfl rfl).trans (res_main_v211_apply V t ht j)
  | 5 => exact (read _ _ _ _ (show _ < 6 by decide) _ rfl rfl).trans (res_main_v253_apply V t ht j)

end

end Cert.ReferenceIdeal.Hand

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_token_in_range
public import proofs.«01_k».proof.Proof.Token
public import proofs.«01_k».proof.Proof.KernelValue
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.ShloMosaic.ValueIdx Idealize.SL.Sem Cert.Gru

/-- The kernel runs under the precondition, its arguments and its counters as they were. -/
theorem frame_kernel : Cert.quiescent_Kernel := fun m g h => Cert.Kernel.Gen.frame m g (Cert.Kernel.Hand.hyps_of_pre m h)

/-- The idealized kernel runs under the precondition, its arguments and its counters as they were. -/
theorem frame_kernel_ideal : Cert.quiescent_KernelIdeal := fun m g h =>
  Cert.KernelIdeal.Gen.frame m g (Cert.KernelIdeal.Hand.hyps_of_pre m h)

/-- The idealized reference runs, its arguments and its counters as they were. -/
theorem frame_reference_ideal : Cert.quiescent_ReferenceIdeal := fun m g _ =>
  θ_run_mono (Cert.ReferenceIdeal.Value.run m g) fun r h => ⟨fun c => (h c).2.2, sem_eq_zero_of_no_sems rfl r.2⟩

/-- The same under the precondition. -/
theorem frame_reference_ideal_pre : Cert.quiescent_ReferenceIdeal_pre_token_in_range := fun m g _ =>
  frame_reference_ideal m g trivial

/-- Under the precondition the idealized kernel and the idealized reference end with equal results. -/
theorem algebraic : Cert.algebraic_KernelIdeal_ReferenceIdeal := fun m g m' g' h e => by
  have hH := Cert.KernelIdeal.Hand.hyps_of_pre m h
  refine ⟨fun c => (Cert.KernelIdeal.Gen.dats m hH 0 c).arrAt 9 Cert.KernelIdeal.cfg0.N,
    fun c => (Cert.KernelIdeal.Gen.dats m hH 0 c).arrAt 10 Cert.KernelIdeal.cfg0.N,
    Cert.KernelIdeal.Value.run_blocks m g hH, θ_run_mono (Cert.ReferenceIdeal.Value.run m' g') fun r hr c => ?_⟩
  obtain ⟨r0, r1, args⟩ := hr c
  obtain ⟨e0, e1, e2, e3, e4, e5, e6, e7, e8⟩ := e c
  let t : Fin 53 := ⟨BitVec.toNat (w := 32) (m ((c.tc : Thread Cert.KernelIdeal.nD Cert.KernelIdeal.τ).loc Cert.KernelIdeal.main_arg0) (ix1 0)),
    Token.lt_of_pre _ _ _ _ _ _ _ _ _ (h c) _⟩
  have ht : BitVec.toNat (w := 32) (StableHlo.launchContents m' c (Proc.devRef .tc Cert.ReferenceIdeal.main_arg0) (ix1 0)) = t.val :=
    congrArg (BitVec.toNat (w := 32)) (congrFun e0 (ix1 0))
  have data : Cert.ReferenceIdeal.Hand.dataAt (StableHlo.launchContents m' c) t
      = ofArrays t (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
    rw [← e1, ← e2, ← e3, ← e4, ← e5, ← e6, ← e7, ← e8]
  refine ⟨r0.trans (funext fun y => ?_), r1.trans (funext fun y => ?_), args⟩
  · have hy : y = ix2 (0 : Fin 1) (y 1) := by
      funext a
      match a with
      | ⟨0, _⟩ => exact Subsingleton.elim (α := Fin 1) _ _
      | ⟨1, _⟩ => rfl
    rw [hy]
    exact (Cert.ReferenceIdeal.Hand.scores_result _ t ht _).trans
      ((congrArg (fun d => scores d (y 1)) data).trans (Cert.KernelIdeal.Hand.scores_final m c hH t rfl _).symm)
  · have hy : y = ix3 (⟨(y 0).val, (y 0).isLt⟩ : Fin 6) (0 : Fin 1) (y 2) := by
      funext a
      match a with
      | ⟨0, _⟩ => rfl
      | ⟨1, _⟩ => exact Subsingleton.elim (α := Fin 1) _ _
      | ⟨2, _⟩ => rfl
    rw [hy]
    exact (Cert.ReferenceIdeal.Hand.hidden_result _ t ht _ _ _).trans
      ((congrArg (fun d => hid d (y 0).val (y 0).isLt (y 2)) data).trans (Cert.KernelIdeal.Hand.hidden_final m c hH t rfl _ _ _).symm)

/-- Every claim. -/
theorem claim : Cert.Claim :=
  ⟨Cert.Kernel.Gen.facts, Cert.KernelIdeal.Gen.facts, Cert.ReferenceIdeal.Gen.facts, Cert.Pre_token_in_range.Gen.facts,
    frame_kernel, frame_kernel_ideal, frame_reference_ideal, frame_reference_ideal_pre, trivial, algebraic⟩

end Cert.Proof

end
